-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x9600 : Shape := ⟨3, ![192, 1, 9600]⟩
abbrev S960x3200 : Shape := ⟨2, ![960, 3200]⟩
abbrev S75x3200 : Shape := ⟨2, ![75, 3200]⟩
abbrev S75x320 : Shape := ⟨2, ![75, 320]⟩
abbrev S40x128 : Shape := ⟨2, ![40, 128]⟩
abbrev S80x128 : Shape := ⟨2, ![80, 128]⟩
abbrev S192x9600 : Shape := ⟨2, ![192, 9600]⟩
abbrev S192x3200 : Shape := ⟨2, ![192, 3200]⟩
abbrev S960x640 : Shape := ⟨2, ![960, 640]⟩
abbrev S75x640 : Shape := ⟨2, ![75, 640]⟩
abbrev S192x640 : Shape := ⟨2, ![192, 640]⟩
abbrev S16x128 : Shape := ⟨2, ![16, 128]⟩
abbrev S8x128 : Shape := ⟨2, ![8, 128]⟩
abbrev S16x128x1 : Shape := ⟨3, ![16, 128, 1]⟩
abbrev S1x128 : Shape := ⟨2, ![1, 128]⟩
abbrev S32x128 : Shape := ⟨2, ![32, 128]⟩
abbrev S640x128 : Shape := ⟨2, ![640, 128]⟩
abbrev S640x640 : Shape := ⟨2, ![640, 640]⟩

abbrev nBuf : Space → Nat
  | .hbm => 8
  | .vmem => 14
  | .smem => 0
  | _ => 0

abbrev bufTy : (tb : Table) → Fin (tcTables nBuf tb) → BufTy
  | .hbm, ⟨0, _⟩ => ⟨S192x1x9600, .bf16⟩
  | .hbm, ⟨1, _⟩ => ⟨S960x3200, .i32⟩
  | .hbm, ⟨2, _⟩ => ⟨S75x3200, .bf16⟩
  | .hbm, ⟨3, _⟩ => ⟨S75x320, .i32⟩
  | .hbm, ⟨4, _⟩ => ⟨S40x128, .i32⟩
  | .hbm, ⟨5, _⟩ => ⟨S80x128, .bf16⟩
  | .hbm, ⟨6, _⟩ => ⟨S192x9600, .bf16⟩
  | .hbm, ⟨7, _⟩ => ⟨S192x3200, .bf16⟩
  | .local _ .vmem, ⟨0, _⟩ => ⟨S192x9600, .bf16⟩
  | .local _ .vmem, ⟨1, _⟩ => ⟨S960x640, .i32⟩
  | .local _ .vmem, ⟨2, _⟩ => ⟨S960x640, .i32⟩
  | .local _ .vmem, ⟨3, _⟩ => ⟨S75x640, .bf16⟩
  | .local _ .vmem, ⟨4, _⟩ => ⟨S75x640, .bf16⟩
  | .local _ .vmem, ⟨5, _⟩ => ⟨S75x320, .i32⟩
  | .local _ .vmem, ⟨6, _⟩ => ⟨S40x128, .i32⟩
  | .local _ .vmem, ⟨7, _⟩ => ⟨S80x128, .bf16⟩
  | .local _ .vmem, ⟨8, _⟩ => ⟨S192x640, .bf16⟩
  | .local _ .vmem, ⟨9, _⟩ => ⟨S192x640, .bf16⟩
  | .local _ .vmem, ⟨10, _⟩ => ⟨S192x9600, .bf16⟩
  | .local _ .vmem, ⟨11, _⟩ => ⟨S75x640, .f32⟩
  | .local _ .vmem, ⟨12, _⟩ => ⟨S75x640, .f32⟩
  | .local _ .vmem, ⟨13, _⟩ => ⟨S192x640, .f32⟩
  | _, _ => ⟨S192x1x9600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_42 : BitVec 32 := 0#32
  let c15_i32_43 : BitVec 32 := 15#32
  let v85 : BitVec 32 := Scalar.addi c0_i32_42 c15_i32_43
  let c1_i32_44 : BitVec 32 := 1#32
  ⟨c0_i32_42, v85, c1_i32_44⟩
@[reducible] def k0_t2_loop : Scf.Loop 32 :=
  let c0_i32_48 : BitVec 32 := 0#32
  let c12_i32 : BitVec 32 := 12#32
  let v88 : BitVec 32 := Scalar.addi c0_i32_48 c12_i32
  let c1_i32_49 : BitVec 32 := 1#32
  ⟨c0_i32_48, v88, c1_i32_49⟩
def k0_off1 (k0_t1 : Fin k0_t1_loop.trips) (k0_t2 : Fin k0_t2_loop.trips) (c0_i32_53 : BitVec 32) : Fin 2 → Nat :=
  let c16_i32 : BitVec 32 := 16#32
  let c0_i32_52 : BitVec 32 := 0#32
  let c0_i32_48 : BitVec 32 := 0#32
  let c1_i32_49 : BitVec 32 := 1#32
  let arg13 : BitVec 32 := Scf.iv c0_i32_48 c1_i32_49 k0_t2
  let c1_i32_51 : BitVec 32 := 1#32
  let v89 : BitVec 32 := Scalar.muli arg13 c1_i32_51
  let v90 : BitVec 32 := Scalar.addi c0_i32_52 v89
  let v91 : BitVec 32 := Scalar.muli c16_i32 v90
  let v94 : Index := Scalar.indexCast v91
  let c640_i32 : BitVec 32 := 640#32
  let c0_i32_47 : BitVec 32 := 0#32
  let c0_i32_42 : BitVec 32 := 0#32
  let c1_i32_44 : BitVec 32 := 1#32
  let arg12 : BitVec 32 := Scf.iv c0_i32_42 c1_i32_44 k0_t1
  let c1_i32_46 : BitVec 32 := 1#32
  let v86 : BitVec 32 := Scalar.muli arg12 c1_i32_46
  let v87 : BitVec 32 := Scalar.addi c0_i32_47 v86
  let v92 : BitVec 32 := Scalar.muli c640_i32 v87
  let v93 : BitVec 32 := Scalar.addi v92 c0_i32_53
  let v95 : Index := Scalar.indexCast v93
  ![v94.toNat, v95.toNat]
@[reducible] def k0_t3_loop : Scf.Loop 32 :=
  let c0_i32_35 : BitVec 32 := 0#32
  let c15_i32 : BitVec 32 := 15#32
  let v81 : BitVec 32 := Scalar.addi c0_i32_35 c15_i32
  let c1_i32_36 : BitVec 32 := 1#32
  ⟨c0_i32_35, v81, c1_i32_36⟩
def k0_off2 (k0_t3 : Fin k0_t3_loop.trips) (c0_i32_44 : BitVec 32) : Fin 2 → Nat :=
  let c5_i32 : BitVec 32 := 5#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v87 : BitVec 32 := Scalar.muli c5_i32 v86
  let v88 : BitVec 32 := Scalar.addi v87 c0_i32_44
  let v89 : Index := Scalar.indexCast v88
  let c0_45 : Index := 0#32
  ![v89.toNat, 0]
def k0_off3 (k0_t3 : Fin k0_t3_loop.trips) (c0_i32_72 : BitVec 32) : Fin 2 → Nat :=
  let c64_i32 : BitVec 32 := 64#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v172 : BitVec 32 := Scalar.muli c64_i32 v86
  let v173 : BitVec 32 := Scalar.addi v172 c0_i32_72
  let v174 : Index := Scalar.indexCast v173
  let c0_73 : Index := 0#32
  ![v174.toNat, 0]
def k0_off4 (k0_t3 : Fin k0_t3_loop.trips) (c0_i32_168 : BitVec 32) : Fin 2 → Nat :=
  let c5_i32_167 : BitVec 32 := 5#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v561 : BitVec 32 := Scalar.muli c5_i32_167 v86
  let v562 : BitVec 32 := Scalar.addi v561 c0_i32_168
  let v563 : Index := Scalar.indexCast v562
  let c128 : Index := 128#32
  ![v563.toNat, 128]
def k0_off5 (k0_t3 : Fin k0_t3_loop.trips) (c0_i32_197 : BitVec 32) : Fin 2 → Nat :=
  let c64_i32_196 : BitVec 32 := 64#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v646 : BitVec 32 := Scalar.muli c64_i32_196 v86
  let v647 : BitVec 32 := Scalar.addi v646 c0_i32_197
  let v648 : Index := Scalar.indexCast v647
  let c128_198 : Index := 128#32
  ![v648.toNat, 128]
def k0_off6 (k0_t3 : Fin k0_t3_loop.trips) (c0_i32_309 : BitVec 32) : Fin 2 → Nat :=
  let c5_i32_308 : BitVec 32 := 5#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v1035 : BitVec 32 := Scalar.muli c5_i32_308 v86
  let v1036 : BitVec 32 := Scalar.addi v1035 c0_i32_309
  let v1037 : Index := Scalar.indexCast v1036
  let c256 : Index := 256#32
  ![v1037.toNat, 256]
def k0_off7 (k0_t3 : Fin k0_t3_loop.trips) (c0_i32_338 : BitVec 32) : Fin 2 → Nat :=
  let c64_i32_337 : BitVec 32 := 64#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v1120 : BitVec 32 := Scalar.muli c64_i32_337 v86
  let v1121 : BitVec 32 := Scalar.addi v1120 c0_i32_338
  let v1122 : Index := Scalar.indexCast v1121
  let c256_339 : Index := 256#32
  ![v1122.toNat, 256]
def k0_off8 (k0_t3 : Fin k0_t3_loop.trips) (c0_i32_450 : BitVec 32) : Fin 2 → Nat :=
  let c5_i32_449 : BitVec 32 := 5#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v1509 : BitVec 32 := Scalar.muli c5_i32_449 v86
  let v1510 : BitVec 32 := Scalar.addi v1509 c0_i32_450
  let v1511 : Index := Scalar.indexCast v1510
  let c384 : Index := 384#32
  ![v1511.toNat, 384]
def k0_off9 (k0_t3 : Fin k0_t3_loop.trips) (c0_i32_479 : BitVec 32) : Fin 2 → Nat :=
  let c64_i32_478 : BitVec 32 := 64#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v1594 : BitVec 32 := Scalar.muli c64_i32_478 v86
  let v1595 : BitVec 32 := Scalar.addi v1594 c0_i32_479
  let v1596 : Index := Scalar.indexCast v1595
  let c384_480 : Index := 384#32
  ![v1596.toNat, 384]
def k0_off10 (k0_t3 : Fin k0_t3_loop.trips) (c0_i32_591 : BitVec 32) : Fin 2 → Nat :=
  let c5_i32_590 : BitVec 32 := 5#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v1983 : BitVec 32 := Scalar.muli c5_i32_590 v86
  let v1984 : BitVec 32 := Scalar.addi v1983 c0_i32_591
  let v1985 : Index := Scalar.indexCast v1984
  let c512 : Index := 512#32
  ![v1985.toNat, 512]
def k0_off11 (k0_t3 : Fin k0_t3_loop.trips) (c0_i32_620 : BitVec 32) : Fin 2 → Nat :=
  let c64_i32_619 : BitVec 32 := 64#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v2068 : BitVec 32 := Scalar.muli c64_i32_619 v86
  let v2069 : BitVec 32 := Scalar.addi v2068 c0_i32_620
  let v2070 : Index := Scalar.indexCast v2069
  let c512_621 : Index := 512#32
  ![v2070.toNat, 512]
def k0_off12 (k0_t3 : Fin k0_t3_loop.trips) : Fin 2 → Nat :=
  let c0_733 : Index := 0#32
  let c640_i32 : BitVec 32 := 640#32
  let c0_i32_43 : BitVec 32 := 0#32
  let c0_i32_35 : BitVec 32 := 0#32
  let c1_i32_36 : BitVec 32 := 1#32
  let arg12 : BitVec 32 := Scf.iv c0_i32_35 c1_i32_36 k0_t3
  let c1_i32_42 : BitVec 32 := 1#32
  let v85 : BitVec 32 := Scalar.muli arg12 c1_i32_42
  let v86 : BitVec 32 := Scalar.addi c0_i32_43 v85
  let v2459 : BitVec 32 := Scalar.muli c640_i32 v86
  let v2460 : Index := Scalar.indexCast v2459
  ![0, v2460.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x9600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S960x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S75x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S75x320 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S192x1x9600 : Shape := ⟨3, ![192, 1, 9600]⟩
abbrev S960x3200 : Shape := ⟨2, ![960, 3200]⟩
abbrev S75x3200 : Shape := ⟨2, ![75, 3200]⟩
abbrev S75x320 : Shape := ⟨2, ![75, 320]⟩
abbrev S10 : Shape := ⟨1, ![10]⟩
abbrev S_ : Shape := ⟨0, ![]⟩
abbrev S960x1x3200 : Shape := ⟨3, ![960, 1, 3200]⟩
abbrev S1x10x1 : Shape := ⟨3, ![1, 10, 1]⟩
abbrev S960x10x3200 : Shape := ⟨3, ![960, 10, 3200]⟩
abbrev S9600x3200 : Shape := ⟨2, ![9600, 3200]⟩
abbrev S75x1x320 : Shape := ⟨3, ![75, 1, 320]⟩
abbrev S75x10x320 : Shape := ⟨3, ![75, 10, 320]⟩
abbrev S75x128x3200 : Shape := ⟨3, ![75, 128, 3200]⟩
abbrev S192x9600 : Shape := ⟨2, ![192, 9600]⟩
abbrev S192x3200 : Shape := ⟨2, ![192, 3200]⟩

abbrev nBuf : Space → Nat
  | .hbm => 37
  | .vmem => 0
  | .smem => 0
  | _ => 0

abbrev bufTy : (tb : Table) → Fin (tcTables nBuf tb) → BufTy
  | .hbm, ⟨0, _⟩ => ⟨S192x1x9600, .bf16⟩
  | .hbm, ⟨1, _⟩ => ⟨S960x3200, .i32⟩
  | .hbm, ⟨2, _⟩ => ⟨S75x3200, .bf16⟩
  | .hbm, ⟨3, _⟩ => ⟨S75x320, .i32⟩
  | .hbm, ⟨4, _⟩ => ⟨S10, .i32⟩
  | .hbm, ⟨5, _⟩ => ⟨S_, .i32⟩
  | .hbm, ⟨6, _⟩ => ⟨S10, .i32⟩
  | .hbm, ⟨7, _⟩ => ⟨S10, .i32⟩
  | .hbm, ⟨8, _⟩ => ⟨S960x1x3200, .i32⟩
  | .hbm, ⟨9, _⟩ => ⟨S1x10x1, .i32⟩
  | .hbm, ⟨10, _⟩ => ⟨S960x10x3200, .i32⟩
  | .hbm, ⟨11, _⟩ => ⟨S960x10x3200, .i32⟩
  | .hbm, ⟨12, _⟩ => ⟨S960x10x3200, .i32⟩
  | .hbm, ⟨13, _⟩ => ⟨S_, .i32⟩
  | .hbm, ⟨14, _⟩ => ⟨S960x10x3200, .i32⟩
  | .hbm, ⟨15, _⟩ => ⟨S960x10x3200, .i32⟩
  | .hbm, ⟨16, _⟩ => ⟨S9600x3200, .i32⟩
  | .hbm, ⟨17, _⟩ => ⟨S9600x3200, .bf16⟩
  | .hbm, ⟨18, _⟩ => ⟨S75x1x320, .i32⟩
  | .hbm, ⟨19, _⟩ => ⟨S1x10x1, .i32⟩
  | .hbm, ⟨20, _⟩ => ⟨S75x10x320, .i32⟩
  | .hbm, ⟨21, _⟩ => ⟨S75x10x320, .i32⟩
  | .hbm, ⟨22, _⟩ => ⟨S75x10x320, .i32⟩
  | .hbm, ⟨23, _⟩ => ⟨S_, .i32⟩
  | .hbm, ⟨24, _⟩ => ⟨S75x10x320, .i32⟩
  | .hbm, ⟨25, _⟩ => ⟨S75x10x320, .i32⟩
  | .hbm, ⟨26, _⟩ => ⟨S75x3200, .i32⟩
  | .hbm, ⟨27, _⟩ => ⟨S75x3200, .bf16⟩
  | .hbm, ⟨28, _⟩ => ⟨S75x128x3200, .bf16⟩
  | .hbm, ⟨29, _⟩ => ⟨S9600x3200, .bf16⟩
  | .hbm, ⟨30, _⟩ => ⟨S9600x3200, .bf16⟩
  | .hbm, ⟨31, _⟩ => ⟨S75x128x3200, .bf16⟩
  | .hbm, ⟨32, _⟩ => ⟨S9600x3200, .bf16⟩
  | .hbm, ⟨33, _⟩ => ⟨S9600x3200, .bf16⟩
  | .hbm, ⟨34, _⟩ => ⟨S192x9600, .bf16⟩
  | .hbm, ⟨35, _⟩ => ⟨S192x3200, .f32⟩
  | .hbm, ⟨36, _⟩ => ⟨S192x3200, .bf16⟩
  | _, _ => ⟨S192x1x9600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.KernelRun.lean ====
/- The kernel's body, run once: the permutation's outer loop by its invariant, then the whole body at a point that
   permutes the activations and at one that finds them permuted. -/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The permutation's outer loop -/

/-- The pieces the trips of the outer loop before `k` write into the permuted activations, last first: each trip's are
    all those of the inner loop. -/
def pb1 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) : ℕ → List (View.Piece (Elt F) S192x9600 .bf16)
  | 0 => []
  | k + 1 => (if h : k < k0_t1_loop.trips then pb_k0_t2 (F := F) Variants.none c none i arg1 harg1 arg2 harg2 arg3 harg3 arg4 harg4 arg5 harg5 arg6 harg6 arg7 harg7 arg8 harg8 arg9 harg9 arg10 harg10 arg11 harg11 k0_h1 ⟨k, h⟩ (Scalar.addi 0#32 (Scalar.muli (Scf.iv 0#32 1#32 k) 1#32)) X_arg1 X_arg5 X_arg6 k0_t2_loop.trips else []) ++ pb1 c i arg1 harg1 arg2 harg2 arg3 harg3 arg4 harg4 arg5 harg5 arg6 harg6 arg7 harg7 arg8 harg8 arg9 harg9 arg10 harg10 arg11 harg11 k0_h1 X_arg1 X_arg5 X_arg6 k

theorem pb1_succ (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (k : Fin k0_t1_loop.trips) :
    pb1 (F := F) c i arg1 harg1 arg2 harg2 arg3 harg3 arg4 harg4 arg5 harg5 arg6 harg6 arg7 harg7 arg8 harg8 arg9 harg9 arg10 harg10 arg11 harg11 k0_h1 X_arg1 X_arg5 X_arg6 (k.val + 1)
      = pb_k0_t2 (F := F) Variants.none c none i arg1 harg1 arg2 harg2 arg3 harg3 arg4 harg4 arg5 harg5 arg6 harg6 arg7 harg7 arg8 harg8 arg9 harg9 arg10 harg10 arg11 harg11 k0_h1 k (Scalar.addi 0#32 (Scalar.muli (Scf.iv 0#32 1#32 k.val) 1#32)) X_arg1 X_arg5 X_arg6 k0_t2_loop.trips ++ pb1 (F := F) c i arg1 harg1 arg2 harg2 arg3 harg3 arg4 harg4 arg5 harg5 arg6 harg6 arg7 harg7 arg8 harg8 arg9 harg9 arg10 harg10 arg11 harg11 k0_h1 X_arg1 X_arg5 X_arg6 k.val := by
  rw [pb1.eq_2, dif_pos k.isLt]

/-- Before trip `k` of the outer loop: what the permutation reads at its contents, and the permuted activations holding
    the pieces of the trips before `k`. -/
abbrev inv1 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (G_arg8 : BufTy.Contents (Elt F) arg8.view.ty) (k : ℕ) (_u : PUnit) : sProp 𝕄 :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (∃ f, (arg8.view.loc (c : Thread nD τ) ↦[arg8.view.set]{fullShare} f) ∗ ⌜f = arg8.view.writes (Elt F) G_arg8 (pb1 (F := F) c i arg1 harg1 arg2 harg2 arg3 harg3 arg4 harg4 arg5 harg5 arg6 harg6 arg7 harg7 arg8 harg8 arg9 harg9 arg10 harg10 arg11 harg11 k0_h1 X_arg1 X_arg5 X_arg6 k)⌝))

set_option warn.classDefReducibility false in
set_option maxHeartbeats 1000000 in
/-- The outer loop by its invariant: one trip is the inner loop, whose pieces go in front. -/
@[sl_loop] def loopInv_k0_t1 (c : Dev nD) (E : Set ℕ) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (G_arg8 : BufTy.Contents (Elt F) arg8.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 k0_h1 where
  inv := inv1 (F := F) c i arg1 harg1 arg2 harg2 arg3 harg3 arg4 harg4 arg5 harg5 arg6 harg6 arg7 harg7 arg8 harg8 arg9 harg9 arg10 harg10 arg11 harg11 k0_h1 X_arg1 X_arg5 X_arg6 G_arg8
  step k acc := by
    unfold k0_t1_body
    iintro ⟨HR_arg1, HR_arg5, HR_arg6, ⟨%f_arg8, HW_arg8, %h_arg8⟩⟩
    sl_exec
    sl_step
    isplitl [HR_arg1]; · iexact HR_arg1
    isplitl [HR_arg5]; · iexact HR_arg5
    isplitl [HR_arg6]; · iexact HR_arg6
    rw [pb1_succ]
    iexists _; isplitl [HW_arg8]; · iexact HW_arg8
    ipureintro; rw [h_arg8, ← View.writes_append]; rfl

/-! ## The body at a point -/

/-- The condition under which the body permutes the activations. -/
abbrev cond0_0 (i : grid0.Coords) : Prop := k0_cond1 i = 1#1
/-- It holds at the first point only. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

set_option maxHeartbeats 4000000 in
/-- The body where it permutes: the pieces it leaves in the output's buffer, for any contents the scratch buffers start
    with, and its run. The permuted activations end with the outer loop's pieces written. -/
def runA (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (hc0 : cond0_0 i)
    (x0 : Vec F S192x9600 .bf16) (x1 : Vec F S960x640 .i32) (x2 : Vec F S75x640 .bf16) (x3 : Vec F S75x320 .i32) (x4 : Vec F S40x128 .i32) (x5 : Vec F S80x128 .bf16) (d0 : Vec F S192x9600 .bf16) (d1 : Vec F S75x640 .f32) (d2 : Vec F S75x640 .f32) (d3 : Vec F S192x640 .f32) :
    { L : List (View.Piece (Elt F) S192x640 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ owns (c : Thread nD τ) arg11 fullShare d3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ (arg8.view.loc (c : Thread nD τ) ↦[arg8.view.set]{fullShare} arg8.view.writes (Elt F) (harg8.unread d0) (pb1 (F := F) c i arg1 harg1 arg2 harg2 arg3 harg3 arg4 harg4 arg5 harg5 arg6 harg6 arg7 harg7 arg8 harg8 arg9 harg9 arg10 harg10 arg11 harg11 hc0 (harg1.unread x0) (harg5.unread x4) (harg6.unread x5) k0_t1_loop.trips)) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_w3_linear_eq_skeleton]; unfold cc0_w3_linear_skel
    simp only [k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hs0; obtain rfl := harg9.eq_unread hs1; obtain rfl := harg10.eq_unread hs2; obtain rfl := harg11.eq_unread hs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]; · iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option maxHeartbeats 4000000 in
/-- The body where the activations are permuted already (`d0`): the pieces it leaves in the output's buffer, and its
    run, which leaves the permuted activations as they were. -/
def runB (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (hc0 : ¬cond0_0 i)
    (x0 : Vec F S192x9600 .bf16) (x1 : Vec F S960x640 .i32) (x2 : Vec F S75x640 .bf16) (x3 : Vec F S75x320 .i32) (x4 : Vec F S40x128 .i32) (x5 : Vec F S80x128 .bf16) (d0 : Vec F S192x9600 .bf16) (d1 : Vec F S75x640 .f32) (d2 : Vec F S75x640 .f32) (d3 : Vec F S192x640 .f32) :
    { L : List (View.Piece (Elt F) S192x640 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ owns (c : Thread nD τ) arg11 fullShare d3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare d0 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_w3_linear_eq_skeleton]; unfold cc0_w3_linear_skel
    simp only [k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hs0; obtain rfl := harg9.eq_unread hs1; obtain rfl := harg10.eq_unread hs2; obtain rfl := harg11.eq_unread hs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelFrame.lean ====
/- The frame of `Kernel`: every run of the program ends, leaves the argument arrays as they were and every
   semaphore counter at zero. What the kernel leaves in the output's buffer is not named here. -/
module

public import proofs.«01_k».proof.Proof.KernelRun
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post from a run to the pipeline's. -/
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-- Each window's current staging memref at point `t`, spelled as the pipeline passes it (`bodyAt0`), and its wholeness. -/
abbrev ms0_0 (t : Fin cfg0.N) : Memref sig .tc .vmem S192x9600 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S960x640 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S75x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S75x320 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S80x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S192x9600 .bf16 := Memref.whole cc0_scratch0
abbrev scM0_1 : Memref sig .tc .vmem S75x640 .f32 := Memref.whole cc0_scratch1
abbrev scM0_2 : Memref sig .tc .vmem S75x640 .f32 := Memref.whole cc0_scratch2
abbrev scM0_3 : Memref sig .tc .vmem S192x640 .f32 := Memref.whole cc0_scratch3
/-- The scratch `arg8` the kernel carries between points, as a view: what it holds is stated through it. -/
abbrev VS0_0 : View sig .tc .vmem S192x9600 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output window: what the kernel leaves in it is not named. -/
def forgets0 : Fin 7 → Bool := fun w => w.val == 6

/-- The pipeline's proof data: the inputs' buffers at their blocks, the output's forgotten, every scratch buffer at
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  by_cases h0 : t.val % 5 = 0
  · iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) e0 e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · unfold owns; iexists _, _; isplitr
          swap; · iexact HS0
          ipureintro; rfl
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _, _; isplitr
    swap; · iexact H6
    ipureintro; rfl
  · iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) e0 e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · iexists _; iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _, _; isplitr
    swap; · iexact H6
    ipureintro; rfl

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the pipeline's post, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of' m ρ (fun c => (dats m 0 c).toRForget forgets0) (A_eq m) (run_main m ρ)

/-- The frame claim's statement. -/
theorem frame_Kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdealRun.lean ====
/- The kernel's body, run once: the permutation's outer loop by its invariant, then the whole body at a point that
   permutes the activations and at one that finds them permuted. -/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The permutation's outer loop -/

/-- The pieces the trips of the outer loop before `k` write into the permuted activations, last first: each trip's are
    all those of the inner loop. -/
def pb1 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) : ℕ → List (View.Piece (Elt F) S192x9600 .bf16)
  | 0 => []
  | k + 1 => (if h : k < k0_t1_loop.trips then pb_k0_t2 (F := F) Variants.none c none i arg1 harg1 arg2 harg2 arg3 harg3 arg4 harg4 arg5 harg5 arg6 harg6 arg7 harg7 arg8 harg8 arg9 harg9 arg10 harg10 arg11 harg11 k0_h1 ⟨k, h⟩ (Scalar.addi 0#32 (Scalar.muli (Scf.iv 0#32 1#32 k) 1#32)) X_arg1 X_arg5 X_arg6 k0_t2_loop.trips else []) ++ pb1 c i arg1 harg1 arg2 harg2 arg3 harg3 arg4 harg4 arg5 harg5 arg6 harg6 arg7 harg7 arg8 harg8 arg9 harg9 arg10 harg10 arg11 harg11 k0_h1 X_arg1 X_arg5 X_arg6 k

theorem pb1_succ (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (k : Fin k0_t1_loop.trips) :
    pb1 (F := F) c i arg1 harg1 arg2 harg2 arg3 harg3 arg4 harg4 arg5 harg5 arg6 harg6 arg7 harg7 arg8 harg8 arg9 harg9 arg10 harg10 arg11 harg11 k0_h1 X_arg1 X_arg5 X_arg6 (k.val + 1)
      = pb_k0_t2 (F := F) Variants.none c none i arg1 harg1 arg2 harg2 arg3 harg3 arg4 harg4 arg5 harg5 arg6 harg6 arg7 harg7 arg8 harg8 arg9 harg9 arg10 harg10 arg11 harg11 k0_h1 k (Scalar.addi 0#32 (Scalar.muli (Scf.iv 0#32 1#32 k.val) 1#32)) X_arg1 X_arg5 X_arg6 k0_t2_loop.trips ++ pb1 (F := F) c i arg1 harg1 arg2 harg2 arg3 harg3 arg4 harg4 arg5 harg5 arg6 harg6 arg7 harg7 arg8 harg8 arg9 harg9 arg10 harg10 arg11 harg11 k0_h1 X_arg1 X_arg5 X_arg6 k.val := by
  rw [pb1.eq_2, dif_pos k.isLt]

/-- Before trip `k` of the outer loop: what the permutation reads at its contents, and the permuted activations holding
    the pieces of the trips before `k`. -/
abbrev inv1 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (G_arg8 : BufTy.Contents (Elt F) arg8.view.ty) (k : ℕ) (_u : PUnit) : sProp 𝕄 :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (∃ f, (arg8.view.loc (c : Thread nD τ) ↦[arg8.view.set]{fullShare} f) ∗ ⌜f = arg8.view.writes (Elt F) G_arg8 (pb1 (F := F) c i arg1 harg1 arg2 harg2 arg3 harg3 arg4 harg4 arg5 harg5 arg6 harg6 arg7 harg7 arg8 harg8 arg9 harg9 arg10 harg10 arg11 harg11 k0_h1 X_arg1 X_arg5 X_arg6 k)⌝))

set_option warn.classDefReducibility false in
set_option maxHeartbeats 1000000 in
/-- The outer loop by its invariant: one trip is the inner loop, whose pieces go in front. -/
@[sl_loop] def loopInv_k0_t1 (c : Dev nD) (E : Set ℕ) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (k0_h1 : k0_cond1 i = 1#1) (X_arg1 : BufTy.Contents (Elt F) arg1.view.ty) (X_arg5 : BufTy.Contents (Elt F) arg5.view.ty) (X_arg6 : BufTy.Contents (Elt F) arg6.view.ty) (G_arg8 : BufTy.Contents (Elt F) arg8.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 k0_h1 where
  inv := inv1 (F := F) c i arg1 harg1 arg2 harg2 arg3 harg3 arg4 harg4 arg5 harg5 arg6 harg6 arg7 harg7 arg8 harg8 arg9 harg9 arg10 harg10 arg11 harg11 k0_h1 X_arg1 X_arg5 X_arg6 G_arg8
  step k acc := by
    unfold k0_t1_body
    iintro ⟨HR_arg1, HR_arg5, HR_arg6, ⟨%f_arg8, HW_arg8, %h_arg8⟩⟩
    sl_exec
    sl_step
    isplitl [HR_arg1]; · iexact HR_arg1
    isplitl [HR_arg5]; · iexact HR_arg5
    isplitl [HR_arg6]; · iexact HR_arg6
    rw [pb1_succ]
    iexists _; isplitl [HW_arg8]; · iexact HW_arg8
    ipureintro; rw [h_arg8, ← View.writes_append]; rfl

/-! ## The body at a point -/

/-- The condition under which the body permutes the activations. -/
abbrev cond0_0 (i : grid0.Coords) : Prop := k0_cond1 i = 1#1
/-- It holds at the first point only. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

set_option maxHeartbeats 4000000 in
/-- The body where it permutes: the pieces it leaves in the output's buffer, for any contents the scratch buffers start
    with, and its run. The permuted activations end with the outer loop's pieces written. -/
def runA (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (hc0 : cond0_0 i)
    (x0 : Vec F S192x9600 .bf16) (x1 : Vec F S960x640 .i32) (x2 : Vec F S75x640 .bf16) (x3 : Vec F S75x320 .i32) (x4 : Vec F S40x128 .i32) (x5 : Vec F S80x128 .bf16) (d0 : Vec F S192x9600 .bf16) (d1 : Vec F S75x640 .f32) (d2 : Vec F S75x640 .f32) (d3 : Vec F S192x640 .f32) :
    { L : List (View.Piece (Elt F) S192x640 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ owns (c : Thread nD τ) arg11 fullShare d3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ (arg8.view.loc (c : Thread nD τ) ↦[arg8.view.set]{fullShare} arg8.view.writes (Elt F) (harg8.unread d0) (pb1 (F := F) c i arg1 harg1 arg2 harg2 arg3 harg3 arg4 harg4 arg5 harg5 arg6 harg6 arg7 harg7 arg8 harg8 arg9 harg9 arg10 harg10 arg11 harg11 hc0 (harg1.unread x0) (harg5.unread x4) (harg6.unread x5) k0_t1_loop.trips)) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_w3_linear_eq_skeleton]; unfold cc0_w3_linear_skel
    simp only [k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hs0; obtain rfl := harg9.eq_unread hs1; obtain rfl := harg10.eq_unread hs2; obtain rfl := harg11.eq_unread hs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]; · iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option maxHeartbeats 4000000 in
/-- The body where the activations are permuted already (`d0`): the pieces it leaves in the output's buffer, and its
    run, which leaves the permuted activations as they were. -/
def runB (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (hc0 : ¬cond0_0 i)
    (x0 : Vec F S192x9600 .bf16) (x1 : Vec F S960x640 .i32) (x2 : Vec F S75x640 .bf16) (x3 : Vec F S75x320 .i32) (x4 : Vec F S40x128 .i32) (x5 : Vec F S80x128 .bf16) (d0 : Vec F S192x9600 .bf16) (d1 : Vec F S75x640 .f32) (d2 : Vec F S75x640 .f32) (d3 : Vec F S192x640 .f32) :
    { L : List (View.Piece (Elt F) S192x640 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ owns (c : Thread nD τ) arg11 fullShare d3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare d0 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_w3_linear_eq_skeleton]; unfold cc0_w3_linear_skel
    simp only [k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hs0; obtain rfl := harg9.eq_unread hs1; obtain rfl := harg10.eq_unread hs2; obtain rfl := harg11.eq_unread hs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.KernelIdealFrame.lean ====
/- The frame of `KernelIdeal`: every run of the program ends, leaves the argument arrays as they were and every
   semaphore counter at zero. What the kernel leaves in the output's buffer is not named here. -/
module

public import proofs.«01_k».proof.Proof.KernelIdealRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post from a run to the pipeline's. -/
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-- Each window's current staging memref at point `t`, spelled as the pipeline passes it (`bodyAt0`), and its wholeness. -/
abbrev ms0_0 (t : Fin cfg0.N) : Memref sig .tc .vmem S192x9600 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S960x640 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S75x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S75x320 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S80x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S192x9600 .bf16 := Memref.whole cc0_scratch0
abbrev scM0_1 : Memref sig .tc .vmem S75x640 .f32 := Memref.whole cc0_scratch1
abbrev scM0_2 : Memref sig .tc .vmem S75x640 .f32 := Memref.whole cc0_scratch2
abbrev scM0_3 : Memref sig .tc .vmem S192x640 .f32 := Memref.whole cc0_scratch3
/-- The scratch `arg8` the kernel carries between points, as a view: what it holds is stated through it. -/
abbrev VS0_0 : View sig .tc .vmem S192x9600 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output window: what the kernel leaves in it is not named. -/
def forgets0 : Fin 7 → Bool := fun w => w.val == 6

/-- The pipeline's proof data: the inputs' buffers at their blocks, the output's forgotten, every scratch buffer at
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  by_cases h0 : t.val % 5 = 0
  · iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) e0 e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · unfold owns; iexists _, _; isplitr
          swap; · iexact HS0
          ipureintro; rfl
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _, _; isplitr
    swap; · iexact H6
    ipureintro; rfl
  · iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) e0 e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · iexists _; iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _, _; isplitr
    swap; · iexact H6
    ipureintro; rfl

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the pipeline's post, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of' m ρ (fun c => (dats m 0 c).toRForget forgets0) (A_eq m) (run_main m ρ)

/-- The frame claim's statement. -/
theorem frame_KernelIdeal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Tile.lean ====
/- The weights a loop trip dequantizes, written as one family of forty chunks a column tile, each chunk described by
   the table of fields it holds. -/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The three ways a chunk reads its fields out of the packed words. -/
inductive Typ | a | b | c
  deriving DecidableEq

/-- A chunk of sixteen rows: how it reads its fields, the block of eight words it reads, which half of the
    thirty-two bytes it takes, the quantization group of its first row, and the row its group steps up at. -/
structure Desc where
  typ : Typ
  b : Fin 8
  half : Bool
  g : Fin 5
  u : Option Nat

/-- The forty chunks of a tile, in the order the kernel stacks them. -/
def descs : List Desc :=
  [⟨.a, 0, false, 0, none⟩, ⟨.a, 0, true, 0, none⟩, ⟨.b, 0, false, 0, none⟩, ⟨.b, 0, true, 0, none⟩,
   ⟨.a, 1, false, 0, none⟩, ⟨.a, 1, true, 0, (some 3)⟩, ⟨.b, 1, false, 0, none⟩, ⟨.b, 1, true, 0, (some 3)⟩,
   ⟨.c, 0, false, 0, none⟩, ⟨.c, 1, true, 0, (some 10)⟩, ⟨.a, 2, false, 1, none⟩, ⟨.a, 2, true, 1, none⟩,
   ⟨.b, 2, false, 1, none⟩, ⟨.b, 2, true, 1, none⟩, ⟨.a, 3, false, 1, (some 6)⟩, ⟨.a, 3, true, 2, none⟩,
   ⟨.b, 3, false, 1, (some 6)⟩, ⟨.b, 3, true, 2, none⟩, ⟨.c, 2, false, 1, none⟩, ⟨.c, 3, true, 1, (some 4)⟩,
   ⟨.a, 4, false, 2, none⟩, ⟨.a, 4, true, 2, (some 10)⟩, ⟨.b, 4, false, 2, none⟩, ⟨.b, 4, true, 2, (some 9)⟩,
   ⟨.a, 5, false, 3, none⟩, ⟨.a, 5, true, 3, none⟩, ⟨.b, 5, false, 3, none⟩, ⟨.b, 5, true, 3, none⟩,
   ⟨.c, 4, false, 2, (some 13)⟩, ⟨.c, 5, true, 3, none⟩, ⟨.a, 6, false, 3, (some 13)⟩, ⟨.a, 6, true, 4, none⟩,
   ⟨.b, 6, false, 3, (some 13)⟩, ⟨.b, 6, true, 4, none⟩, ⟨.a, 7, false, 4, none⟩, ⟨.a, 7, true, 4, none⟩,
   ⟨.b, 7, false, 4, none⟩, ⟨.b, 7, true, 4, none⟩, ⟨.c, 6, false, 3, (some 6)⟩, ⟨.c, 7, true, 4, none⟩]

theorem descs_length : descs.length = 40 := rfl

def desc (j : Fin 40) : Desc := descs[j.val]'(lt_of_lt_of_eq j.isLt descs_length.symm)

/-- The bytes of eight masked words, as floats. -/
def bytes (m : BitVec 32) (w : Vec F S8x128 .i32) : FVec F S32x128 .bf16 :=
  uitofp .bf16 (bitcast S32x128 8 (andi w (broadcast S8x128 m)) bitcasts_S8x128_w32_S32x128_w8 : IVec S32x128 8)

/-- The low halves of sixteen shifted words. -/
def halves (w w' : Vec F S8x128 .i32) : IVec S16x128 16 :=
  concatenate S16x128 0 [⟨S8x128, trunci 16 (shrui w (broadcast S8x128 2#32)) natLt_16_32⟩,
    ⟨S8x128, trunci 16 (shrui w' (broadcast S8x128 2#32)) natLt_16_32⟩] concatenates_S8x128_S8x128_S16x128_d0

def u8 (W : Fin 8 → Vec F S8x128 .i32) (t : Typ) (b : Fin 8) : FVec F S32x128 .bf16 :=
  match t with
  | .a => bytes 119279111#32 (W b)
  | .b => bytes 954232888#32 (W b)
  | .c => bytes 3765493872#32 (bitcast S8x128 32
      (halves (W ⟨2 * (b.val / 2), by omega⟩) (W ⟨2 * (b.val / 2) + 1, by omega⟩)) bitcasts_S16x128_w16_S8x128_w32)

/-- A table row, repeated down a chunk. -/
def row16 (v : Vec F S1x128 .f32) : FVec F S16x128 .bf16 :=
  truncf .bf16 (broadcastTo S16x128 (shapeCast S1x128 v shapeCasts_S1x128_S1x128) broadcasts_S1x128_S16x128) bitsLt_bf16_f32

/-- The powers of two the rows of a chunk carry. -/
def pat (t : Typ) : FVec F S16x128 .bf16 :=
  match t with
  | .a => k0_pay494 k0_pay491 k0_pay492 k0_pay493 (Scalar.ofBits .f32 0x3F800000#32)
  | .b => k0_pay495 (iota .tc S16x128 32 [0] iota_S16x128_d0_w32)
  | .c => k0_pay1 (k0_pay497 (iota .tc S16x128 32 [0] iota_S16x128_d0_w32))
      (k0_pay498 (iota .tc S16x128 32 [0] iota_S16x128_d0_w32)) (Scalar.ofBits .f32 0x41800000#32)

/-- The rows before the step of a chunk's group take the first value, the others the second. -/
def pick (u : Option Nat) (x y : FVec F S16x128 .bf16) : FVec F S16x128 .bf16 :=
  match u with
  | none => x
  | some n => select (cmpi .slt (trunci 16 (iota .tc S16x128 32 [0] iota_S16x128_d0_w32) natLt_16_32)
      (broadcast S16x128 (BitVec.ofNat 16 n))) x y

/-- The first or the second sixteen of thirty-two rows. -/
def halfOf (h : Bool) (x : FVec F S32x128 .bf16) : FVec F S16x128 .bf16 :=
  match h with
  | false => extractStridedSlice S16x128 ![0, 0] x slices_S32x128_o0_0_S16x128
  | true => extractStridedSlice S16x128 ![16, 0] x slices_S32x128_o16_0_S16x128

/-- A chunk of the dequantized weights, from the words and the table rows its trip loads. -/
def part (W : Fin 8 → Vec F S8x128 .i32) (S Z : Fin 5 → Vec F S1x128 .f32) (d : Desc) : FVec F S16x128 .bf16 :=
  mulf (subf (halfOf d.half (u8 W d.typ d.b))
    (pick d.u (mulf (row16 (Z d.g)) (pat d.typ)) (mulf (row16 (Z (d.g + 1))) (pat d.typ))))
    (pick d.u (row16 (S d.g)) (row16 (S (d.g + 1))))

/-- A column tile of the dequantized weights. -/
def tile (W : Fin 8 → Vec F S8x128 .i32) (S Z : Fin 5 → Vec F S1x128 .f32) : FVec F S640x128 .bf16 :=
  concatenate S640x128 0 (List.ofFn fun j : Fin 40 => ⟨S16x128, part W S Z (desc j)⟩)
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S640x128_d0

section Loads
variable (arg2 : Memref sig Kind.tc Space.vmem S960x640 .i32) (arg9 arg10 : Memref sig Kind.tc Space.vmem S75x640 .f32)
variable (X2 : BufTy.Contents (Elt F) arg2.view.ty) (X9 : BufTy.Contents (Elt F) arg9.view.ty)
variable (X10 : BufTy.Contents (Elt F) arg10.view.ty) (k : Fin k0_t3_loop.trips)

/-- What trip `k` loads for column tile 0: the blocks of eight words, and the rows of a table. -/
def ldW0 (b : Fin 8) : Vec F S8x128 .i32 :=
  View.readAt (Elt F) arg2.view (Rect.unit (s := S960x640) (k0_off3 k (BitVec.ofNat 32 (8 * b.val))) S8x128.size (k0_off3_inb k b)).toLoadRect X2

def ldT0 (g : Fin 5) : Vec F S1x128 .f32 :=
  View.readAt (Elt F) arg9.view (Rect.unit (s := S75x640) (k0_off2 k (BitVec.ofNat 32 g.val)) S1x128.size (k0_off2_inb k g)).toLoadRect X9

/-- What trip `k` loads for column tile 1: the blocks of eight words, and the rows of a table. -/
def ldW1 (b : Fin 8) : Vec F S8x128 .i32 :=
  View.readAt (Elt F) arg2.view (Rect.unit (s := S960x640) (k0_off5 k (BitVec.ofNat 32 (8 * b.val))) S8x128.size (k0_off5_inb k b)).toLoadRect X2

def ldT1 (g : Fin 5) : Vec F S1x128 .f32 :=
  View.readAt (Elt F) arg9.view (Rect.unit (s := S75x640) (k0_off4 k (BitVec.ofNat 32 g.val)) S1x128.size (k0_off4_inb k g)).toLoadRect X9

/-- What trip `k` loads for column tile 2: the blocks of eight words, and the rows of a table. -/
def ldW2 (b : Fin 8) : Vec F S8x128 .i32 :=
  View.readAt (Elt F) arg2.view (Rect.unit (s := S960x640) (k0_off7 k (BitVec.ofNat 32 (8 * b.val))) S8x128.size (k0_off7_inb k b)).toLoadRect X2

def ldT2 (g : Fin 5) : Vec F S1x128 .f32 :=
  View.readAt (Elt F) arg9.view (Rect.unit (s := S75x640) (k0_off6 k (BitVec.ofNat 32 g.val)) S1x128.size (k0_off6_inb k g)).toLoadRect X9

/-- What trip `k` loads for column tile 3: the blocks of eight words, and the rows of a table. -/
def ldW3 (b : Fin 8) : Vec F S8x128 .i32 :=
  View.readAt (Elt F) arg2.view (Rect.unit (s := S960x640) (k0_off9 k (BitVec.ofNat 32 (8 * b.val))) S8x128.size (k0_off9_inb k b)).toLoadRect X2

def ldT3 (g : Fin 5) : Vec F S1x128 .f32 :=
  View.readAt (Elt F) arg9.view (Rect.unit (s := S75x640) (k0_off8 k (BitVec.ofNat 32 g.val)) S1x128.size (k0_off8_inb k g)).toLoadRect X9

/-- What trip `k` loads for column tile 4: the blocks of eight words, and the rows of a table. -/
def ldW4 (b : Fin 8) : Vec F S8x128 .i32 :=
  View.readAt (Elt F) arg2.view (Rect.unit (s := S960x640) (k0_off11 k (BitVec.ofNat 32 (8 * b.val))) S8x128.size (k0_off11_inb k b)).toLoadRect X2

def ldT4 (g : Fin 5) : Vec F S1x128 .f32 :=
  View.readAt (Elt F) arg9.view (Rect.unit (s := S75x640) (k0_off10 k (BitVec.ofNat 32 g.val)) S1x128.size (k0_off10_inb k g)).toLoadRect X9

theorem tile0_eq : trip_k0_t3.sl.r_69 arg2 arg9 arg10 (iota .tc S16x128 32 [0] iota_S16x128_d0_w32) (pat .a) (pat .b) (k0_pay497 (iota .tc S16x128 32 [0] iota_S16x128_d0_w32)) (k0_pay498 (iota .tc S16x128 32 [0] iota_S16x128_d0_w32)) (Scalar.ofBits .f32 0x41800000#32) X2 X9 X10 k
    = tile (ldW0 arg2 X2 k) (ldT0 arg9 X9 k) (ldT0 arg10 X10 k) := by
  rfl

theorem tile1_eq : trip_k0_t3.sl.r_139 arg2 arg9 arg10 (iota .tc S16x128 32 [0] iota_S16x128_d0_w32) (pat .a) (pat .b) (k0_pay497 (iota .tc S16x128 32 [0] iota_S16x128_d0_w32)) (k0_pay498 (iota .tc S16x128 32 [0] iota_S16x128_d0_w32)) (Scalar.ofBits .f32 0x41800000#32) X2 X9 X10 k
    = tile (ldW1 arg2 X2 k) (ldT1 arg9 X9 k) (ldT1 arg10 X10 k) := by
  rfl

theorem tile2_eq : trip_k0_t3.sl.r_206 arg2 arg9 arg10 (iota .tc S16x128 32 [0] iota_S16x128_d0_w32) (pat .a) (pat .b) (k0_pay497 (iota .tc S16x128 32 [0] iota_S16x128_d0_w32)) (k0_pay498 (iota .tc S16x128 32 [0] iota_S16x128_d0_w32)) (Scalar.ofBits .f32 0x41800000#32) X2 X9 X10 k
    = tile (ldW2 arg2 X2 k) (ldT2 arg9 X9 k) (ldT2 arg10 X10 k) := by
  rfl

theorem tile3_eq : trip_k0_t3.sl.r_278 arg2 arg9 arg10 (iota .tc S16x128 32 [0] iota_S16x128_d0_w32) (pat .a) (pat .b) (k0_pay497 (iota .tc S16x128 32 [0] iota_S16x128_d0_w32)) (k0_pay498 (iota .tc S16x128 32 [0] iota_S16x128_d0_w32)) (Scalar.ofBits .f32 0x41800000#32) X2 X9 X10 k
    = tile (ldW3 arg2 X2 k) (ldT3 arg9 X9 k) (ldT3 arg10 X10 k) := by
  rfl

theorem tile4_eq : trip_k0_t3.sl.v2456 arg2 arg9 arg10 (iota .tc S16x128 32 [0] iota_S16x128_d0_w32) (pat .a) (pat .b) (k0_pay497 (iota .tc S16x128 32 [0] iota_S16x128_d0_w32)) (k0_pay498 (iota .tc S16x128 32 [0] iota_S16x128_d0_w32)) (Scalar.ofBits .f32 0x41800000#32) X2 X9 X10 k
    = tile (ldW4 arg2 X2 k) (ldT4 arg9 X9 k) (ldT4 arg10 X10 k) := by
  rfl

end Loads

end Cert.KernelIdeal.Hand

end
-- ==== Proof.Dequant.lean ====
/- What a chunk of the dequantized weights is on the extended reals: the field's code and the group's zero point,
   both times the power of two the field's place in its byte leaves, subtracted and scaled. -/
module

public import proofs.«01_k».proof.Proof.Tile
public import Idealize.ShloMosaic.Lib.BitcastPair
public import Idealize.ShloMosaic.Lib.ValueIdxCore
public import Idealize.ShloMosaic.Lib.ValueIdx
public import Idealize.ShloMosaic.Lib.Pipeline.Value
public import Idealize.ShloMosaic.Lib.IdealHost
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- The three-bit field at bit `s` of a word. -/
def code (w : BitVec 32) (s : Nat) : Nat := ((w >>> s) &&& 7#32).toNat

theorem code_lt (w : BitVec 32) (s : Nat) : code w s < 8 := by
  unfold code
  rw [BitVec.toNat_and]
  exact lt_of_le_of_lt Nat.and_le_right (by decide)

theorem byte_val (y : BitVec 8) (w : BitVec 32) (s p : Nat) (hp : p ≤ 5)
    (h : ∀ q, q < 8 → y.getLsbD q = (decide (p ≤ q ∧ q < p + 3) && w.getLsbD (s + (q - p)))) :
    y.toNat = code w s * 2 ^ p := by
  have hc := code_lt w s
  have e : y = (((w >>> s) &&& 7#32).setWidth 8) <<< p := by
    apply BitVec.eq_of_getLsbD_eq
    intro q hq
    rw [h q hq]
    interval_cases p <;> interval_cases q <;> simp
  rw [e, BitVec.toNat_shiftLeft, BitVec.toNat_setWidth]
  change (code w s % 2 ^ 8) <<< p % 2 ^ 8 = _
  rw [Nat.mod_eq_of_lt (show code w s < 2 ^ 8 by omega), Nat.shiftLeft_eq]
  apply Nat.mod_eq_of_lt
  have : 2 ^ p ≤ 2 ^ 5 := Nat.pow_le_pow_right (by decide) hp
  calc code w s * 2 ^ p ≤ 7 * 2 ^ 5 := Nat.mul_le_mul (by omega) this
    _ < 2 ^ 8 := by decide

/-- Byte `r % 4` of the word at row `r / 4`, of eight words read as thirty-two bytes. -/
theorem bitcast_bytes (x : IVec S8x128 32) (r : Fin 32) (l : Fin 128) (q : Nat) (hq : q < 8) :
    (bitcast S32x128 8 x bitcasts_S8x128_w32_S32x128_w8 (ix2 r l)).getLsbD q
      = (x (ix2 ⟨r.val / 4, by omega⟩ l)).getLsbD (8 * (r.val % 4) + q) := by
  have h := bitcasts_S8x128_w32_S32x128_w8
  rw [bitcast_getLsbD x h _ q hq (by decide)]
  have er : S32x128.row (ix2 r l) = r.val := rfl
  have e1 : (S32x128.row (ix2 r l) * 8 + q) / 32 = r.val / 4 := by rw [er]; omega
  have e2 : (S32x128.row (ix2 r l) * 8 + q) % 32 = 8 * (r.val % 4) + q := by rw [er]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by decide))

/-- Two sixteen-bit rows as the halves of a word. -/
theorem bitcast_halves (x : IVec S16x128 16) (r : Fin 8) (l : Fin 128) (q : Nat) (hq : q < 32) :
    (bitcast S8x128 32 x bitcasts_S16x128_w16_S8x128_w32 (ix2 r l)).getLsbD q
      = (x (ix2 ⟨2 * r.val + q / 16, by omega⟩ l)).getLsbD (q % 16) := by
  have h := bitcasts_S16x128_w16_S8x128_w32
  rw [bitcast_getLsbD x h _ q hq (by decide)]
  have er : S8x128.row (ix2 r l) = r.val := rfl
  have e1 : (S8x128.row (ix2 r l) * 32 + q) / 16 = 2 * r.val + q / 16 := by rw [er]; omega
  have e2 : (S8x128.row (ix2 r l) * 32 + q) % 16 = q % 16 := by rw [er]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by decide))

/-- The field in byte `k` of a chunk's masked words, and the bit of the byte it begins at. -/
def fld : Typ → Nat → Nat
  | .a, k => ([0, 3, 6, 8] : List Nat).getD k 0
  | .b, k => ([1, 4, 7, 9] : List Nat).getD k 0
  | .c, k => ([2, 5, 2, 5] : List Nat).getD k 0

def pw : Typ → Nat → Nat
  | .a, k => ([0, 1, 2, 0] : List Nat).getD k 0
  | .b, k => ([3, 4, 5, 3] : List Nat).getD k 0
  | .c, k => ([4, 5, 4, 5] : List Nat).getD k 0

theorem pw_le (t : Typ) (k : Nat) (hk : k < 4) : pw t k ≤ 5 := by
  cases t <;> interval_cases k <;> decide

theorem bytes_val (m : BitVec 32) (w : IVec S8x128 32) (r : Fin 32) (l : Fin 128) (v : BitVec 32) (s p : Nat) (hp : p ≤ 5)
    (h : ∀ q, q < 8 → (w (ix2 ⟨r.val / 4, by omega⟩ l) &&& m).getLsbD (8 * (r.val % 4) + q)
      = (decide (p ≤ q ∧ q < p + 3) && v.getLsbD (s + (q - p)))) :
    bytes (F := Ideal) m w (ix2 r l) = ((((code v s * 2 ^ p : Nat) : ℝ)) : EReal) := by
  have e := byte_val (bitcast S32x128 8 (andi w (broadcast S8x128 m)) bitcasts_S8x128_w32_S32x128_w8 (ix2 r l)) v s p hp
    (fun q hq => by rw [bitcast_bytes _ r l q hq]; exact h q hq)
  rw [← e]
  rfl

theorem u8_a (W : Fin 8 → IVec S8x128 32) (b : Fin 8) (r : Fin 32) (l : Fin 128) :
    u8 (F := Ideal) W .a b (ix2 r l)
      = ((((code (W b (ix2 ⟨r.val / 4, by omega⟩ l)) (3 * fld .a (r.val % 4)) * 2 ^ pw .a (r.val % 4) : Nat) : ℝ)) : EReal) := by
  have hk : r.val % 4 < 4 := Nat.mod_lt _ (by decide)
  refine bytes_val _ (W b) r l _ _ _ (pw_le _ _ hk) fun q hq => ?_
  rw [BitVec.getLsbD_and]
  generalize (W b (ix2 ⟨r.val / 4, by omega⟩ l)) = w
  generalize r.val % 4 = k at *
  interval_cases k <;> interval_cases q <;> simp [fld, pw]

theorem u8_b (W : Fin 8 → IVec S8x128 32) (b : Fin 8) (r : Fin 32) (l : Fin 128) :
    u8 (F := Ideal) W .b b (ix2 r l)
      = ((((code (W b (ix2 ⟨r.val / 4, by omega⟩ l)) (3 * fld .b (r.val % 4)) * 2 ^ pw .b (r.val % 4) : Nat) : ℝ)) : EReal) := by
  have hk : r.val % 4 < 4 := Nat.mod_lt _ (by decide)
  refine bytes_val _ (W b) r l _ _ _ (pw_le _ _ hk) fun q hq => ?_
  rw [BitVec.getLsbD_and]
  generalize (W b (ix2 ⟨r.val / 4, by omega⟩ l)) = w
  generalize r.val % 4 = k at *
  interval_cases k <;> interval_cases q <;> simp [fld, pw]

theorem shr2_half (x : BitVec 32) (q : Nat) (hq : q < 16) :
    ((IntOp.shrui .vector x 2#32).setWidth 16).getLsbD q = x.getLsbD (2 + q) := by
  have e : IntOp.shrui .vector x 2#32 = x >>> 2 := rfl
  rw [e, BitVec.getLsbD_setWidth, BitVec.getLsbD_ushiftRight]
  simp [hq]

/-- Row `i` of the stacked halves comes from the first block when `i < 8`, from the second otherwise. -/
theorem halves_bit (w w' : IVec S8x128 32) (i : Fin 16) (l : Fin 128) (q : Nat) (hq : q < 16) :
    (halves (F := Ideal) w w' (ix2 i l)).getLsbD q
      = ((if i.val / 8 = 0 then w else w') (ix2 ⟨i.val % 8, by omega⟩ l)).getLsbD (2 + q) := by
  unfold halves
  by_cases hi : i.val < 8
  · rw [if_pos (by omega)]
    refine (congrArg (fun z : BitVec 16 => z.getLsbD q) (concatenate_apply_piece (t := S16x128) 0
      [⟨S8x128, trunci 16 (shrui w (broadcast S8x128 2#32)) natLt_16_32⟩, ⟨S8x128, trunci 16 (shrui w' (broadcast S8x128 2#32)) natLt_16_32⟩]
      concatenates_S8x128_S8x128_S16x128_d0 (ix2 i l) 0 (Nat.succ_pos _) S8x128 (trunci 16 (shrui w (broadcast S8x128 2#32)) natLt_16_32) rfl rfl 0 rfl
      (ix2 ⟨i.val % 8, by omega⟩ l)
      (fun b hb => by match b with | ⟨0, _⟩ => exact absurd rfl hb | ⟨1, _⟩ => rfl)
      (by change 0 + i.val % 8 = i.val; omega))).trans ?_
    exact shr2_half _ q hq
  · rw [if_neg (by omega)]
    refine (congrArg (fun z : BitVec 16 => z.getLsbD q) (concatenate_apply_piece (t := S16x128) 0
      [⟨S8x128, trunci 16 (shrui w (broadcast S8x128 2#32)) natLt_16_32⟩, ⟨S8x128, trunci 16 (shrui w' (broadcast S8x128 2#32)) natLt_16_32⟩]
      concatenates_S8x128_S8x128_S16x128_d0 (ix2 i l) 1 (Nat.succ_lt_succ (Nat.succ_pos _)) S8x128 (trunci 16 (shrui w' (broadcast S8x128 2#32)) natLt_16_32) rfl rfl 8 rfl
      (ix2 ⟨i.val % 8, by omega⟩ l)
      (fun b hb => by match b with | ⟨0, _⟩ => exact absurd rfl hb | ⟨1, _⟩ => rfl)
      (by change 8 + i.val % 8 = i.val; omega))).trans ?_
    exact shr2_half _ q hq

theorem u8_c (W : Fin 8 → IVec S8x128 32) (b : Fin 8) (r : Fin 32) (l : Fin 128) (b' : Fin 8)
    (hb : b'.val = 2 * (b.val / 2) + r.val / 16) :
    u8 (F := Ideal) W .c b (ix2 r l)
      = ((((code (W b' (ix2 ⟨r.val / 2 % 8, by omega⟩ l)) (3 * fld .c (r.val % 4)) * 2 ^ pw .c (r.val % 4) : Nat) : ℝ)) : EReal) := by
  have hk : r.val % 4 < 4 := Nat.mod_lt _ (by decide)
  refine bytes_val _ _ r l _ _ _ (pw_le _ _ hk) fun q hq => ?_
  rw [BitVec.getLsbD_and, bitcast_halves _ _ _ _ (by omega), halves_bit _ _ _ _ _ (by omega)]
  have ew : ((if (2 * (r.val / 4) + (8 * (r.val % 4) + q) / 16) / 8 = 0 then W ⟨2 * (b.val / 2), by omega⟩
      else W ⟨2 * (b.val / 2) + 1, by omega⟩) (ix2 ⟨(2 * (r.val / 4) + (8 * (r.val % 4) + q) / 16) % 8, by omega⟩ l))
      = W b' (ix2 ⟨r.val / 2 % 8, by omega⟩ l) := by
    have e1 : (⟨(2 * (r.val / 4) + (8 * (r.val % 4) + q) / 16) % 8, by omega⟩ : Fin 8) = ⟨r.val / 2 % 8, by omega⟩ :=
      Fin.ext (by change (2 * (r.val / 4) + (8 * (r.val % 4) + q) / 16) % 8 = r.val / 2 % 8; omega)
    rw [e1]
    split
    · rw [show b' = ⟨2 * (b.val / 2), by omega⟩ from Fin.ext (by rw [hb]; change _ = 2 * (b.val / 2); omega)]
    · rw [show b' = ⟨2 * (b.val / 2) + 1, by omega⟩ from Fin.ext (by rw [hb]; change _ = 2 * (b.val / 2) + 1; omega)]
  rw [ew]
  generalize (W b' (ix2 ⟨r.val / 2 % 8, by omega⟩ l)) = w
  clear ew hb
  generalize r.val % 4 = k at *
  interval_cases k <;> interval_cases q <;> simp [fld, pw]

/-- The f32 patterns of the powers of two the chunks carry. -/
theorem ofBits_pow (p : Nat) (hp : p ≤ 5) :
    Ideal.ofBits .f32 (([0x3F800000#32, 0x40000000#32, 0x40800000#32, 0x41000000#32, 0x41800000#32, 0x42000000#32]
      : List (BitVec 32)).getD p 0#32) = (((2 ^ p : Nat) : ℝ) : EReal) := by
  interval_cases p
  all_goals
    simp [Ideal.ofBits, Ideal.ieee, -EReal.coe_mul, -EReal.coe_one, -EReal.coe_pow]
    try norm_num

/-- The choice among the powers of two a chunk carries, by the two low bits of the row. -/
def ladder (i : BitVec 32) (x0 x1 x2 x3 : Ideal .f32) : Ideal .f32 :=
  if BitVec.ofBool (i == 2#32) = 1#1 then x2 else if BitVec.ofBool (i == 1#32) = 1#1 then x1
    else if BitVec.ofBool (i == 0#32) = 1#1 then x0 else x3

theorem ladder_val (r : Nat) (hr : r < 4) (x : Nat → Ideal .f32) : ladder (BitVec.ofNat 32 r) (x 0) (x 1) (x 2) (x 3) = x r := by
  unfold ladder
  interval_cases r <;> simp

theorem and3 : ∀ k : Fin 16, BitVec.ofNat 32 (0 * 16 + k.val) &&& 3#32 = BitVec.ofNat 32 (k.val % 4) := by decide

theorem pat_val (t : Typ) (r : Fin 16) (l : Fin 128) :
    pat (F := Ideal) t (ix2 r l) = (((2 ^ pw t (r.val % 4) : Nat) : ℝ) : EReal) := by
  rw [← ofBits_pow _ (pw_le t _ (Nat.mod_lt _ (by decide)))]
  have h := ladder_val (r.val % 4) (Nat.mod_lt _ (by decide)) (fun k => Ideal.ofBits .f32
    (([0x3F800000#32, 0x40000000#32, 0x40800000#32, 0x41000000#32, 0x41800000#32, 0x42000000#32]
      : List (BitVec 32)).getD (pw t k) 0#32))
  rw [← h, ← and3]
  cases t <;> rfl

theorem row16_val (v : FVec Ideal S1x128 .f32) (r : Fin 16) (l : Fin 128) :
    row16 (F := Ideal) v (ix2 r l) = v (ix2 0 l) := by
  have e : shapeCast S1x128 v shapeCasts_S1x128_S1x128 = v := shapeCast_self _ _
  unfold row16
  rw [e]
  change v _ = v _
  congr 1
  funext c
  match c with
  | ⟨0, _⟩ => rfl
  | ⟨1, _⟩ => rfl

theorem slt16 : ∀ r n : Fin 16, ((BitVec.ofNat 32 r.val).setWidth 16).slt (BitVec.ofNat 16 n.val) = decide (r.val < n.val) := by
  decide

/-- The group of row `r` of a chunk. -/
def Desc.grp (d : Desc) (r : Nat) : Fin 5 :=
  match d.u with
  | none => d.g
  | some n => if r < n then d.g else d.g + 1

/-- The word row `r` of a chunk reads, of the sixty-four of its tile. -/
def Desc.word (d : Desc) (r : Nat) : Nat :=
  match d.typ with
  | .c => 8 * d.b.val + r / 2
  | _ => 8 * d.b.val + 4 * d.half.toNat + r / 4

theorem pick_val (u : Option Nat) (hu : ∀ n, u = some n → n < 16) (x y : FVec Ideal S16x128 .bf16) (r : Fin 16) (l : Fin 128) :
    pick u x y (ix2 r l) = match u with
      | none => x (ix2 r l)
      | some n => if r.val < n then x (ix2 r l) else y (ix2 r l) := by
  cases u with
  | none => rfl
  | some n =>
    have hn := hu n rfl
    have h := slt16 r ⟨n, hn⟩
    change (if BitVec.ofBool (((BitVec.ofNat 32 (0 * 16 + r.val)).setWidth 16).slt (BitVec.ofNat 16 n)) = 1#1 then _ else _) = _
    rw [Nat.zero_mul, Nat.zero_add, h]
    by_cases hr : r.val < n <;> simp [hr]

theorem part_val (W : Fin 8 → IVec S8x128 32) (S Z : Fin 5 → FVec Ideal S1x128 .f32) (d : Desc)
    (hu : ∀ n, d.u = some n → n < 16) (hc : d.typ = .c → d.b.val % 2 = d.half.toNat) (r : Fin 16) (l : Fin 128)
    (b : Fin 8) (i : Fin 8) (hw : d.word r.val = 8 * b.val + i.val) :
    part (F := Ideal) W S Z d (ix2 r l)
      = ((((code (W b (ix2 i l)) (3 * fld d.typ (r.val % 4)) * 2 ^ pw d.typ (r.val % 4) : Nat) : ℝ) : EReal)
          - Z (d.grp r.val) (ix2 0 l) * (((2 ^ pw d.typ (r.val % 4) : Nat) : ℝ) : EReal))
        * S (d.grp r.val) (ix2 0 l) := by
  obtain ⟨t, b0, half, g, u⟩ := d
  have hz : (pick u (mulf (row16 (Z g)) (pat t)) (mulf (row16 (Z (g + 1))) (pat t)) : FVec Ideal S16x128 .bf16) (ix2 r l)
      = Z (Desc.grp ⟨t, b0, half, g, u⟩ r.val) (ix2 0 l) * (((2 ^ pw t (r.val % 4) : Nat) : ℝ) : EReal) := by
    rw [pick_val u hu]
    have hm (g' : Fin 5) : (mulf (row16 (Z g')) (pat t) : FVec Ideal S16x128 .bf16) (ix2 r l) = Z g' (ix2 0 l) * (((2 ^ pw t (r.val % 4) : Nat) : ℝ) : EReal) := by
      rw [← pat_val t r l, ← row16_val (Z g') r l]; rfl
    cases u with
    | none => exact hm g
    | some n =>
      change (if r.val < n then _ else _) = Z (if r.val < n then g else g + 1) _ * _
      split <;> exact hm _
  have hs : (pick u (row16 (S g)) (row16 (S (g + 1))) : FVec Ideal S16x128 .bf16) (ix2 r l) = S (Desc.grp ⟨t, b0, half, g, u⟩ r.val) (ix2 0 l) := by
    rw [pick_val u hu]
    cases u with
    | none => exact row16_val _ r l
    | some n =>
      change (if r.val < n then _ else _) = S (if r.val < n then g else g + 1) _
      split <;> exact row16_val _ r l
  have hx : halfOf (F := Ideal) half (u8 W t b0) (ix2 r l)
      = u8 (F := Ideal) W t b0 (ix2 ⟨16 * half.toNat + r.val, by cases half <;> simp <;> omega⟩ l) := by
    cases half
    · refine extractStridedSlice_apply _ _ slices_S32x128_o0_0_S16x128 _ _ fun a => ?_
      match a with
      | ⟨0, _⟩ => rfl
      | ⟨1, _⟩ => exact (Nat.zero_add _).symm
    · refine extractStridedSlice_apply _ _ slices_S32x128_o16_0_S16x128 _ _ fun a => ?_
      match a with
      | ⟨0, _⟩ => rfl
      | ⟨1, _⟩ => exact (Nat.zero_add _).symm
  have hv : u8 (F := Ideal) W t b0 (ix2 ⟨16 * half.toNat + r.val, by cases half <;> simp <;> omega⟩ l)
      = (((code (W b (ix2 i l)) (3 * fld t (r.val % 4)) * 2 ^ pw t (r.val % 4) : Nat) : ℝ) : EReal) := by
    have hh : half.toNat ≤ 1 := by cases half <;> decide
    have em : (16 * half.toNat + r.val) % 4 = r.val % 4 := by omega
    cases t with
    | a =>
      have hw' : 8 * b0.val + 4 * half.toNat + r.val / 4 = 8 * b.val + i.val := hw
      have eb : b0 = b := Fin.ext (by omega)
      subst eb
      rw [u8_a]
      simp only [em]
      rw [show (⟨(16 * half.toNat + r.val) / 4, by omega⟩ : Fin 8) = i from
        Fin.ext (by change (16 * half.toNat + r.val) / 4 = _; omega)]
    | b =>
      have hw' : 8 * b0.val + 4 * half.toNat + r.val / 4 = 8 * b.val + i.val := hw
      have eb : b0 = b := Fin.ext (by omega)
      subst eb
      rw [u8_b]
      simp only [em]
      rw [show (⟨(16 * half.toNat + r.val) / 4, by omega⟩ : Fin 8) = i from
        Fin.ext (by change (16 * half.toNat + r.val) / 4 = _; omega)]
    | c =>
      have hw' : 8 * b0.val + r.val / 2 = 8 * b.val + i.val := hw
      have hb0 : b0.val % 2 = half.toNat := hc rfl
      have eb : b0 = b := Fin.ext (by omega)
      subst eb
      rw [u8_c W b0 _ l b0 (by change _ = 2 * (b0.val / 2) + (16 * half.toNat + r.val) / 16; omega)]
      simp only [em]
      rw [show (⟨(16 * half.toNat + r.val) / 2 % 8, by omega⟩ : Fin 8) = i from
        Fin.ext (by change (16 * half.toNat + r.val) / 2 % 8 = _; omega)]
  unfold part
  change (_ - _) * _ = _
  rw [hz, hs, hx, hv]

/-- The row of the packed block that row `p` of a tile holds: ten fields a word, words in order. -/
def src (p : Nat) : Nat := 10 * (desc ⟨p / 16 % 40, by omega⟩).word (p % 16) + fld (desc ⟨p / 16 % 40, by omega⟩).typ (p % 4)

/-- The power of two row `p` of a tile carries. -/
def qq (p : Nat) : Nat := pw (desc ⟨p / 16 % 40, by omega⟩).typ (p % 4)

theorem desc_u : ∀ j : Fin 40, ∀ n, (desc j).u = some n → n < 16 := by
  intro j n h
  have : ∀ j : Fin 40, (desc j).u.getD 0 < 16 := by decide
  have := this j
  rw [h] at this
  exact this

theorem desc_c : ∀ j : Fin 40, (desc j).typ = .c → (desc j).b.val % 2 = (desc j).half.toNat := by decide

theorem fld_lt (t : Typ) (k : Nat) (hk : k < 4) : fld t k < 10 := by
  cases t <;> interval_cases k <;> decide

theorem desc_facts : ∀ j : Fin 40, ∀ r : Fin 16,
    (desc j).word r.val < 64 ∧ ((desc j).grp r.val).val
      = (10 * (desc j).word r.val + fld (desc j).typ (r.val % 4)) / 128 := by
  decide +kernel

theorem src_lt (p : Nat) : src p < 640 := by
  have h : (desc ⟨p / 16 % 40, by omega⟩).word (p % 16) < 64 := (desc_facts ⟨p / 16 % 40, by omega⟩ ⟨p % 16, by omega⟩).1
  have h' := fld_lt (desc ⟨p / 16 % 40, by omega⟩).typ (p % 4) (by omega)
  unfold src
  omega

/-- A tile of the weights, at row `p` and lane `l`. -/
theorem tile_val (W : Fin 8 → IVec S8x128 32) (S Z : Fin 5 → FVec Ideal S1x128 .f32) (p : Fin 640) (l : Fin 128) :
    tile (F := Ideal) W S Z (ix2 p l)
      = ((((code (W ⟨src p / 80, by have := src_lt p; omega⟩ (ix2 ⟨src p / 10 % 8, by omega⟩ l)) (3 * (src p % 10)) * 2 ^ qq p : Nat) : ℝ) : EReal)
          - Z ⟨src p / 128, by have := src_lt p; omega⟩ (ix2 0 l) * (((2 ^ qq p : Nat) : ℝ) : EReal))
        * S ⟨src p / 128, by have := src_lt p; omega⟩ (ix2 0 l) := by
  have hj : p.val / 16 % 40 = p.val / 16 := Nat.mod_eq_of_lt (by omega)
  have h : (desc ⟨p.val / 16 % 40, by omega⟩).word (p.val % 16) < 64 ∧ ((desc ⟨p.val / 16 % 40, by omega⟩).grp (p.val % 16)).val
      = (10 * (desc ⟨p.val / 16 % 40, by omega⟩).word (p.val % 16) + fld (desc ⟨p.val / 16 % 40, by omega⟩).typ (p.val % 16 % 4)) / 128 :=
    desc_facts ⟨p.val / 16 % 40, by omega⟩ ⟨p.val % 16, by omega⟩
  have h' := fld_lt (desc ⟨p.val / 16 % 40, by omega⟩).typ (p.val % 4) (by omega)
  have em : p.val % 16 % 4 = p.val % 4 := by omega
  unfold tile
  refine (concatenate_ofFn_apply (s₁ := S16x128) (t := S640x128) 0 (fun j : Fin 40 => part (F := Ideal) W S Z (desc j)) _ rfl 16 rfl (ix2 p l)
    ⟨p.val / 16 % 40, by omega⟩ hj.symm (ix2 ⟨p.val % 16, by omega⟩ l) rfl
    (fun b hb => by match b with | ⟨0, _⟩ => exact absurd rfl hb | ⟨1, _⟩ => rfl)).trans ?_
  have hs : src p.val = 10 * (desc ⟨p.val / 16 % 40, by omega⟩).word (p.val % 16) + fld (desc ⟨p.val / 16 % 40, by omega⟩).typ (p.val % 4) := rfl
  simp only [em] at h
  rw [part_val W S Z _ (desc_u _) (desc_c _) _ l ⟨src p / 80, by have := src_lt p; omega⟩ ⟨src p / 10 % 8, by omega⟩
    (by change (desc ⟨p.val / 16 % 40, by omega⟩).word (p.val % 16) = 8 * (src p.val / 80) + src p.val / 10 % 8; omega)]
  simp only [em]
  rw [show (desc ⟨p.val / 16 % 40, by omega⟩).grp (p.val % 16) = ⟨src p / 128, by have := src_lt p; omega⟩ from Fin.ext h.2,
    show fld (desc ⟨p.val / 16 % 40, by omega⟩).typ (p.val % 4) = src p % 10 by omega]
  rfl

/-- Every row of the packed block is one tile row's. -/
theorem src_inj : ∀ p p' : Fin 640, src p = src p' → p = p' := by
  intro p p' h
  have hl : ((List.range 640).map src).Nodup := by decide +kernel
  have := List.nodup_iff_injective_getElem.1 hl (a₁ := ⟨p, by simp⟩) (a₂ := ⟨p', by simp⟩) (by simpa using h)
  exact Fin.ext (Fin.mk.inj this)

end Cert.KernelIdeal.Hand

end
-- ==== Proof.Acc.lean ====
/- The accumulator through the loop over the blocks of the contraction: what the loop leaves in it, and that on the
   extended reals this is the sum of the products. -/
module

public import proofs.«01_k».proof.Proof.Dequant
public import Idealize.ShloMosaic.Lib.VecWindow
public import Idealize.ShloMosaic.Lib.WholeRead
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

section Generic
variable {F : FTy → Type} [FloatOps F]

/-- The row index of a chunk. -/
abbrev v28 : IVec S16x128 32 := iota .tc S16x128 32 [0] iota_S16x128_d0_w32

/-- One trip over the blocks: what it stores in the accumulator that holds `a`. -/
def accStep (arg2 : Memref sig .tc .vmem S960x640 .i32) (arg8 : Memref sig .tc .vmem S192x9600 .bf16)
    (arg9 arg10 : Memref sig .tc .vmem S75x640 .f32) (X2 : BufTy.Contents (Elt F) arg2.view.ty)
    (X8 : BufTy.Contents (Elt F) arg8.view.ty) (X9 : BufTy.Contents (Elt F) arg9.view.ty)
    (X10 : BufTy.Contents (Elt F) arg10.view.ty) (k : Fin k0_t3_loop.trips) (a : FVec F S192x640 .f32) : FVec F S192x640 .f32 :=
  k0_pay6 (tile (ldW0 arg2 X2 k) (ldT0 arg9 X9 k) (ldT0 arg10 X10 k)) (tile (ldW1 arg2 X2 k) (ldT1 arg9 X9 k) (ldT1 arg10 X10 k))
    (tile (ldW2 arg2 X2 k) (ldT2 arg9 X9 k) (ldT2 arg10 X10 k)) (tile (ldW3 arg2 X2 k) (ldT3 arg9 X9 k) (ldT3 arg10 X10 k))
    (tile (ldW4 arg2 X2 k) (ldT4 arg9 X9 k) (ldT4 arg10 X10 k)) a
    (View.readAt (Elt F) arg8.view (Rect.unit (s := S192x9600) (k0_off12 k) ![192, 640] (k0_off12_inb k)).toLoadRect X8)

/-- The accumulator before trip `k`. -/
def accN (arg2 : Memref sig .tc .vmem S960x640 .i32) (arg8 : Memref sig .tc .vmem S192x9600 .bf16)
    (arg9 arg10 : Memref sig .tc .vmem S75x640 .f32) (X2 : BufTy.Contents (Elt F) arg2.view.ty)
    (X8 : BufTy.Contents (Elt F) arg8.view.ty) (X9 : BufTy.Contents (Elt F) arg9.view.ty)
    (X10 : BufTy.Contents (Elt F) arg10.view.ty) : Nat → FVec F S192x640 .f32
  | 0 => k0_pay2
  | k + 1 => if h : k < k0_t3_loop.trips then
      accStep arg2 arg8 arg9 arg10 X2 X8 X9 X10 ⟨k, h⟩ (accN arg2 arg8 arg9 arg10 X2 X8 X9 X10 k)
    else accN arg2 arg8 arg9 arg10 X2 X8 X9 X10 k

theorem tripL_eq (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole)
    (X2 : BufTy.Contents (Elt F) arg2.view.ty) (X8 : BufTy.Contents (Elt F) arg8.view.ty)
    (X9 : BufTy.Contents (Elt F) arg9.view.ty) (X10 : BufTy.Contents (Elt F) arg10.view.ty) (k : Fin k0_t3_loop.trips)
    (f : BufTy.Contents (Elt F) arg11.view.ty) :
    tripL_k0_t3 (F := F) Variants.none c none i arg1 harg1 arg2 harg2 arg3 harg3 arg4 harg4 arg5 harg5 arg6 harg6 arg7 harg7 arg8 harg8 arg9 harg9 arg10 harg10 arg11 harg11 v28 (pat .a) (pat .b) (k0_pay497 v28) (k0_pay498 v28)
        (Scalar.ofBits .f32 0x41800000#32) X2 X8 X9 X10 k f
      = [⟨Rect.unit (s := S192x640) ![0, 0] S192x640.size inb_S192x640_S192x640_0_0,
          accStep arg2 arg8 arg9 arg10 X2 X8 X9 X10 k
            (View.readAt (Elt F) arg11.view (Rect.unit (s := S192x640) ![0, 0] S192x640.size inb_S192x640_S192x640_0_0).toLoadRect f)⟩] := by
  unfold tripL_k0_t3 trip_k0_t3
  dsimp only
  unfold accStep
  rw [← tile0_eq, ← tile1_eq, ← tile2_eq, ← tile3_eq, ← tile4_eq]

theorem pb_acc (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole)
    (X2 : BufTy.Contents (Elt F) arg2.view.ty) (X8 : BufTy.Contents (Elt F) arg8.view.ty)
    (X9 : BufTy.Contents (Elt F) arg9.view.ty) (X10 : BufTy.Contents (Elt F) arg10.view.ty)
    (G : BufTy.Contents (Elt F) arg11.view.ty) :
    ∀ k : Nat, k ≤ k0_t3_loop.trips →
      View.readAt (Elt F) arg11.view (Rect.unit (s := S192x640) ![0, 0] S192x640.size inb_S192x640_S192x640_0_0).toLoadRect
        (arg11.view.writes (Elt F) (arg11.view.writes (Elt F) G
            [⟨Rect.unit (s := S192x640) ![0, 0] S192x640.size inb_S192x640_S192x640_0_0, k0_pay2⟩])
          (pb_k0_t3 (F := F) Variants.none c none i arg1 harg1 arg2 harg2 arg3 harg3 arg4 harg4 arg5 harg5 arg6 harg6 arg7 harg7 arg8 harg8 arg9 harg9 arg10 harg10 arg11 harg11 v28 (pat .a) (pat .b) (k0_pay497 v28) (k0_pay498 v28)
            (Scalar.ofBits .f32 0x41800000#32) X2 X8 X9 X10
            (arg11.view.writes (Elt F) G [⟨Rect.unit (s := S192x640) ![0, 0] S192x640.size inb_S192x640_S192x640_0_0, k0_pay2⟩]) k))
        = accN arg2 arg8 arg9 arg10 X2 X8 X9 X10 k := by
  intro k
  induction k with
  | zero =>
    intro _
    exact View.readAt_writes_full _ _ _ _ _ _
  | succ k ih =>
    intro hk
    have e := pb_k0_t3_succ (F := F) Variants.none c none i arg1 harg1 arg2 harg2 arg3 harg3 arg4 harg4 arg5 harg5 arg6 harg6 arg7 harg7 arg8 harg8 arg9 harg9 arg10 harg10 arg11 harg11 v28 (pat .a) (pat .b) (k0_pay497 v28) (k0_pay498 v28)
      (Scalar.ofBits .f32 0x41800000#32) X2 X8 X9 X10
      (arg11.view.writes (Elt F) G [⟨Rect.unit (s := S192x640) ![0, 0] S192x640.size inb_S192x640_S192x640_0_0, k0_pay2⟩]) ⟨k, hk⟩
    rw [e, tripL_eq, List.singleton_append, View.readAt_writes_full, ih (Nat.le_of_lt hk)]
    have e2 : accN arg2 arg8 arg9 arg10 X2 X8 X9 X10 (k + 1)
        = accStep arg2 arg8 arg9 arg10 X2 X8 X9 X10 ⟨k, hk⟩ (accN arg2 arg8 arg9 arg10 X2 X8 X9 X10 k) := dif_pos hk
    exact e2.symm

end Generic

/-! ## On the extended reals -/

section AtIdeal

theorem trips3 : k0_t3_loop.trips = 15 := by decide

/-- The dequantized weight of row `p` of block `k` of the packed order, at column `n`: from the words, the scales and the
    zero points of the grid point's columns. -/
def wsp (w : IVec S960x640 32) (s z : FVec Ideal S75x640 .f32) (k : Fin 15) (p n : Fin 640) : EReal :=
  ((((code (w (ix2 ⟨64 * k.val + src p / 10, by have := src_lt p; omega⟩ n)) (3 * (src p % 10)) * 2 ^ qq p : Nat) : ℝ) : EReal)
      - z (ix2 ⟨5 * k.val + src p / 128, by have := src_lt p; omega⟩ n) * (((2 ^ qq p : Nat) : ℝ) : EReal))
    * s (ix2 ⟨5 * k.val + src p / 128, by have := src_lt p; omega⟩ n)

section Tiles
variable (arg2 : Memref sig .tc .vmem S960x640 .i32) (arg9 arg10 : Memref sig .tc .vmem S75x640 .f32)
variable (X2 : BufTy.Contents (Elt Ideal) arg2.view.ty) (X9 : BufTy.Contents (Elt Ideal) arg9.view.ty)
variable (X10 : BufTy.Contents (Elt Ideal) arg10.view.ty) (k : Fin k0_t3_loop.trips)

theorem ldW0_val (b i : Fin 8) (l : Fin 128) :
    ldW0 (F := Ideal) arg2 X2 k b (ix2 i l) = arg2.view.read (Elt Ideal) X2
      (ix2 ⟨64 * k.val + 8 * b.val + i.val, by have := k.isLt; have := trips3; omega⟩ ⟨0 + l.val, by omega⟩) := by
  refine congrArg (arg2.view.read (Elt Ideal) X2) (funext fun a => Fin.ext ?_)
  have e := k0_off3_eq k b
  match a with
  | ⟨0, _⟩ => exact (congrArg (· + 1 * i.val) (congrFun e 0)).trans (congrArg (64 * k.val + 8 * b.val + ·) (Nat.one_mul _))
  | ⟨1, _⟩ => exact (congrArg (· + 1 * l.val) (congrFun e 1)).trans (congrArg (0 + ·) (Nat.one_mul _))

theorem ldT0_val (g : Fin 5) (l : Fin 128) :
    ldT0 (F := Ideal) arg9 X9 k g (ix2 0 l) = arg9.view.read (Elt Ideal) X9
      (ix2 ⟨5 * k.val + g.val, by have := k.isLt; have := trips3; omega⟩ ⟨0 + l.val, by omega⟩) := by
  refine congrArg (arg9.view.read (Elt Ideal) X9) (funext fun a => Fin.ext ?_)
  have e := k0_off2_eq k g
  match a with
  | ⟨0, _⟩ => exact congrFun e 0
  | ⟨1, _⟩ => exact (congrArg (· + 1 * l.val) (congrFun e 1)).trans (congrArg (0 + ·) (Nat.one_mul _))

theorem tile0_val (p : Fin 640) (l : Fin 128) :
    tile (F := Ideal) (ldW0 arg2 X2 k) (ldT0 arg9 X9 k) (ldT0 arg10 X10 k) (ix2 p l)
      = wsp (arg2.view.read (Elt Ideal) X2) (arg9.view.read (Elt Ideal) X9) (arg10.view.read (Elt Ideal) X10)
          (k.cast trips3) p ⟨0 + l.val, by omega⟩ := by
  have e : 64 * k.val + 8 * (src p / 80) + src p / 10 % 8 = 64 * k.val + src p / 10 := by omega
  rw [tile_val, ldW0_val, ldT0_val, ldT0_val]
  simp only [e]
  rfl

theorem ldW1_val (b i : Fin 8) (l : Fin 128) :
    ldW1 (F := Ideal) arg2 X2 k b (ix2 i l) = arg2.view.read (Elt Ideal) X2
      (ix2 ⟨64 * k.val + 8 * b.val + i.val, by have := k.isLt; have := trips3; omega⟩ ⟨128 + l.val, by omega⟩) := by
  refine congrArg (arg2.view.read (Elt Ideal) X2) (funext fun a => Fin.ext ?_)
  have e := k0_off5_eq k b
  match a with
  | ⟨0, _⟩ => exact (congrArg (· + 1 * i.val) (congrFun e 0)).trans (congrArg (64 * k.val + 8 * b.val + ·) (Nat.one_mul _))
  | ⟨1, _⟩ => exact (congrArg (· + 1 * l.val) (congrFun e 1)).trans (congrArg (128 + ·) (Nat.one_mul _))

theorem ldT1_val (g : Fin 5) (l : Fin 128) :
    ldT1 (F := Ideal) arg9 X9 k g (ix2 0 l) = arg9.view.read (Elt Ideal) X9
      (ix2 ⟨5 * k.val + g.val, by have := k.isLt; have := trips3; omega⟩ ⟨128 + l.val, by omega⟩) := by
  refine congrArg (arg9.view.read (Elt Ideal) X9) (funext fun a => Fin.ext ?_)
  have e := k0_off4_eq k g
  match a with
  | ⟨0, _⟩ => exact congrFun e 0
  | ⟨1, _⟩ => exact (congrArg (· + 1 * l.val) (congrFun e 1)).trans (congrArg (128 + ·) (Nat.one_mul _))

theorem tile1_val (p : Fin 640) (l : Fin 128) :
    tile (F := Ideal) (ldW1 arg2 X2 k) (ldT1 arg9 X9 k) (ldT1 arg10 X10 k) (ix2 p l)
      = wsp (arg2.view.read (Elt Ideal) X2) (arg9.view.read (Elt Ideal) X9) (arg10.view.read (Elt Ideal) X10)
          (k.cast trips3) p ⟨128 + l.val, by omega⟩ := by
  have e : 64 * k.val + 8 * (src p / 80) + src p / 10 % 8 = 64 * k.val + src p / 10 := by omega
  rw [tile_val, ldW1_val, ldT1_val, ldT1_val]
  simp only [e]
  rfl

theorem ldW2_val (b i : Fin 8) (l : Fin 128) :
    ldW2 (F := Ideal) arg2 X2 k b (ix2 i l) = arg2.view.read (Elt Ideal) X2
      (ix2 ⟨64 * k.val + 8 * b.val + i.val, by have := k.isLt; have := trips3; omega⟩ ⟨256 + l.val, by omega⟩) := by
  refine congrArg (arg2.view.read (Elt Ideal) X2) (funext fun a => Fin.ext ?_)
  have e := k0_off7_eq k b
  match a with
  | ⟨0, _⟩ => exact (congrArg (· + 1 * i.val) (congrFun e 0)).trans (congrArg (64 * k.val + 8 * b.val + ·) (Nat.one_mul _))
  | ⟨1, _⟩ => exact (congrArg (· + 1 * l.val) (congrFun e 1)).trans (congrArg (256 + ·) (Nat.one_mul _))

theorem ldT2_val (g : Fin 5) (l : Fin 128) :
    ldT2 (F := Ideal) arg9 X9 k g (ix2 0 l) = arg9.view.read (Elt Ideal) X9
      (ix2 ⟨5 * k.val + g.val, by have := k.isLt; have := trips3; omega⟩ ⟨256 + l.val, by omega⟩) := by
  refine congrArg (arg9.view.read (Elt Ideal) X9) (funext fun a => Fin.ext ?_)
  have e := k0_off6_eq k g
  match a with
  | ⟨0, _⟩ => exact congrFun e 0
  | ⟨1, _⟩ => exact (congrArg (· + 1 * l.val) (congrFun e 1)).trans (congrArg (256 + ·) (Nat.one_mul _))

theorem tile2_val (p : Fin 640) (l : Fin 128) :
    tile (F := Ideal) (ldW2 arg2 X2 k) (ldT2 arg9 X9 k) (ldT2 arg10 X10 k) (ix2 p l)
      = wsp (arg2.view.read (Elt Ideal) X2) (arg9.view.read (Elt Ideal) X9) (arg10.view.read (Elt Ideal) X10)
          (k.cast trips3) p ⟨256 + l.val, by omega⟩ := by
  have e : 64 * k.val + 8 * (src p / 80) + src p / 10 % 8 = 64 * k.val + src p / 10 := by omega
  rw [tile_val, ldW2_val, ldT2_val, ldT2_val]
  simp only [e]
  rfl

theorem ldW3_val (b i : Fin 8) (l : Fin 128) :
    ldW3 (F := Ideal) arg2 X2 k b (ix2 i l) = arg2.view.read (Elt Ideal) X2
      (ix2 ⟨64 * k.val + 8 * b.val + i.val, by have := k.isLt; have := trips3; omega⟩ ⟨384 + l.val, by omega⟩) := by
  refine congrArg (arg2.view.read (Elt Ideal) X2) (funext fun a => Fin.ext ?_)
  have e := k0_off9_eq k b
  match a with
  | ⟨0, _⟩ => exact (congrArg (· + 1 * i.val) (congrFun e 0)).trans (congrArg (64 * k.val + 8 * b.val + ·) (Nat.one_mul _))
  | ⟨1, _⟩ => exact (congrArg (· + 1 * l.val) (congrFun e 1)).trans (congrArg (384 + ·) (Nat.one_mul _))

theorem ldT3_val (g : Fin 5) (l : Fin 128) :
    ldT3 (F := Ideal) arg9 X9 k g (ix2 0 l) = arg9.view.read (Elt Ideal) X9
      (ix2 ⟨5 * k.val + g.val, by have := k.isLt; have := trips3; omega⟩ ⟨384 + l.val, by omega⟩) := by
  refine congrArg (arg9.view.read (Elt Ideal) X9) (funext fun a => Fin.ext ?_)
  have e := k0_off8_eq k g
  match a with
  | ⟨0, _⟩ => exact congrFun e 0
  | ⟨1, _⟩ => exact (congrArg (· + 1 * l.val) (congrFun e 1)).trans (congrArg (384 + ·) (Nat.one_mul _))

theorem tile3_val (p : Fin 640) (l : Fin 128) :
    tile (F := Ideal) (ldW3 arg2 X2 k) (ldT3 arg9 X9 k) (ldT3 arg10 X10 k) (ix2 p l)
      = wsp (arg2.view.read (Elt Ideal) X2) (arg9.view.read (Elt Ideal) X9) (arg10.view.read (Elt Ideal) X10)
          (k.cast trips3) p ⟨384 + l.val, by omega⟩ := by
  have e : 64 * k.val + 8 * (src p / 80) + src p / 10 % 8 = 64 * k.val + src p / 10 := by omega
  rw [tile_val, ldW3_val, ldT3_val, ldT3_val]
  simp only [e]
  rfl

theorem ldW4_val (b i : Fin 8) (l : Fin 128) :
    ldW4 (F := Ideal) arg2 X2 k b (ix2 i l) = arg2.view.read (Elt Ideal) X2
      (ix2 ⟨64 * k.val + 8 * b.val + i.val, by have := k.isLt; have := trips3; omega⟩ ⟨512 + l.val, by omega⟩) := by
  refine congrArg (arg2.view.read (Elt Ideal) X2) (funext fun a => Fin.ext ?_)
  have e := k0_off11_eq k b
  match a with
  | ⟨0, _⟩ => exact (congrArg (· + 1 * i.val) (congrFun e 0)).trans (congrArg (64 * k.val + 8 * b.val + ·) (Nat.one_mul _))
  | ⟨1, _⟩ => exact (congrArg (· + 1 * l.val) (congrFun e 1)).trans (congrArg (512 + ·) (Nat.one_mul _))

theorem ldT4_val (g : Fin 5) (l : Fin 128) :
    ldT4 (F := Ideal) arg9 X9 k g (ix2 0 l) = arg9.view.read (Elt Ideal) X9
      (ix2 ⟨5 * k.val + g.val, by have := k.isLt; have := trips3; omega⟩ ⟨512 + l.val, by omega⟩) := by
  refine congrArg (arg9.view.read (Elt Ideal) X9) (funext fun a => Fin.ext ?_)
  have e := k0_off10_eq k g
  match a with
  | ⟨0, _⟩ => exact congrFun e 0
  | ⟨1, _⟩ => exact (congrArg (· + 1 * l.val) (congrFun e 1)).trans (congrArg (512 + ·) (Nat.one_mul _))

theorem tile4_val (p : Fin 640) (l : Fin 128) :
    tile (F := Ideal) (ldW4 arg2 X2 k) (ldT4 arg9 X9 k) (ldT4 arg10 X10 k) (ix2 p l)
      = wsp (arg2.view.read (Elt Ideal) X2) (arg9.view.read (Elt Ideal) X9) (arg10.view.read (Elt Ideal) X10)
          (k.cast trips3) p ⟨512 + l.val, by omega⟩ := by
  have e : 64 * k.val + 8 * (src p / 80) + src p / 10 % 8 = 64 * k.val + src p / 10 := by omega
  rw [tile_val, ldW4_val, ldT4_val, ldT4_val]
  simp only [e]
  rfl

/-- The column tiles of a block, in order. -/
def tiles : Fin 5 → FVec Ideal S640x128 .bf16
  | 0 => tile (ldW0 arg2 X2 k) (ldT0 arg9 X9 k) (ldT0 arg10 X10 k)
  | 1 => tile (ldW1 arg2 X2 k) (ldT1 arg9 X9 k) (ldT1 arg10 X10 k)
  | 2 => tile (ldW2 arg2 X2 k) (ldT2 arg9 X9 k) (ldT2 arg10 X10 k)
  | 3 => tile (ldW3 arg2 X2 k) (ldT3 arg9 X9 k) (ldT3 arg10 X10 k)
  | 4 => tile (ldW4 arg2 X2 k) (ldT4 arg9 X9 k) (ldT4 arg10 X10 k)

theorem tiles_val (ct : Fin 5) (p : Fin 640) (l : Fin 128) :
    tiles arg2 arg9 arg10 X2 X9 X10 k ct (ix2 p l)
      = wsp (arg2.view.read (Elt Ideal) X2) (arg9.view.read (Elt Ideal) X9) (arg10.view.read (Elt Ideal) X10)
          (k.cast trips3) p ⟨128 * ct.val + l.val, by omega⟩ := by
  match ct with
  | 0 => exact tile0_val arg2 arg9 arg10 X2 X9 X10 k p l
  | 1 => exact tile1_val arg2 arg9 arg10 X2 X9 X10 k p l
  | 2 => exact tile2_val arg2 arg9 arg10 X2 X9 X10 k p l
  | 3 => exact tile3_val arg2 arg9 arg10 X2 X9 X10 k p l
  | 4 => exact tile4_val arg2 arg9 arg10 X2 X9 X10 k p l

/-- The block of weights a trip multiplies by. -/
def wblk : FVec Ideal S640x640 .bf16 :=
  concatenate S640x640 1 (List.ofFn fun ct : Fin 5 => ⟨S640x128, tiles arg2 arg9 arg10 X2 X9 X10 k ct⟩)
    concatenates_S640x128_S640x128_S640x128_S640x128_S640x128_S640x640_d1

theorem wblk_val (p n : Fin 640) :
    wblk arg2 arg9 arg10 X2 X9 X10 k (ix2 p n)
      = wsp (arg2.view.read (Elt Ideal) X2) (arg9.view.read (Elt Ideal) X9) (arg10.view.read (Elt Ideal) X10)
          (k.cast trips3) p n := by
  refine (concatenate_ofFn_apply (s₁ := S640x128) (t := S640x640) 1 (tiles arg2 arg9 arg10 X2 X9 X10 k) _ rfl 128 rfl (ix2 p n)
    ⟨n.val / 128, by omega⟩ rfl (ix2 p ⟨n.val % 128, by omega⟩) rfl
    (fun b hb => by match b with | ⟨0, _⟩ => rfl | ⟨1, _⟩ => exact absurd rfl hb)).trans ?_
  rw [tiles_val]
  congr 1
  exact Fin.ext (Nat.div_add_mod n.val 128)

theorem dot640 (x : FVec Ideal S192x640 .bf16) (y : FVec Ideal S640x640 .bf16) (m : Fin 192) (n : Fin 640) :
    matmul dot_S192x640_S640x640_S192x640_1_0_0_1_n_n none x y (constant S192x640 .f32 0x00000000#32) (ix2 m n)
      = ∑ p : Fin 640, x (ix2 m p) * y (ix2 p n) := by
  refine (Ideal.matmul_plain_apply none x y (constant S192x640 .f32 0x00000000#32) m n).trans ?_
  rw [show (constant (F := Ideal) S192x640 .f32 0x00000000#32) (ix2 m n) = 0 from Ideal.ofBits_zero_f32, zero_add]

variable (arg8 : Memref sig .tc .vmem S192x9600 .bf16) (X8 : BufTy.Contents (Elt Ideal) arg8.view.ty)

theorem accStep_val (a : FVec Ideal S192x640 .f32) (m : Fin 192) (n : Fin 640) :
    accStep (F := Ideal) arg2 arg8 arg9 arg10 X2 X8 X9 X10 k a (ix2 m n)
      = a (ix2 m n) + ∑ p : Fin 640, arg8.view.read (Elt Ideal) X8
            (ix2 m ⟨640 * k.val + p.val, by have := k.isLt; have := trips3; omega⟩)
          * wsp (arg2.view.read (Elt Ideal) X2) (arg9.view.read (Elt Ideal) X9) (arg10.view.read (Elt Ideal) X10)
              (k.cast trips3) p n := by
  have e : accStep (F := Ideal) arg2 arg8 arg9 arg10 X2 X8 X9 X10 k a
      = shapeCast S192x640 (addf a (matmul dot_S192x640_S640x640_S192x640_1_0_0_1_n_n none
          (View.readAt (Elt Ideal) arg8.view (Rect.unit (s := S192x9600) (k0_off12 k) ![192, 640] (k0_off12_inb k)).toLoadRect X8)
          (wblk arg2 arg9 arg10 X2 X9 X10 k) (constant S192x640 .f32 0x00000000#32))) shapeCasts_S192x640_S192x640 := rfl
  rw [e, shapeCast_self]
  change a (ix2 m n) + _ = _
  refine congrArg (a (ix2 m n) + ·) ((dot640 _ _ m n).trans (Finset.sum_congr rfl fun p _ => ?_))
  rw [wblk_val]
  congr 1
  refine congrArg (arg8.view.read (Elt Ideal) X8) (funext fun a => Fin.ext ?_)
  have e := k0_off12_eq k
  match a with
  | ⟨0, _⟩ => exact (congrArg (· + 1 * m.val) (congrFun e 0)).trans ((Nat.zero_add _).trans (Nat.one_mul _))
  | ⟨1, _⟩ => exact (congrArg (· + 1 * p.val) (congrFun e 1)).trans (congrArg (640 * k.val + ·) (Nat.one_mul _))

theorem accN_val (m : Fin 192) (n : Fin 640) : ∀ K : Nat, K ≤ 15 →
    accN (F := Ideal) arg2 arg8 arg9 arg10 X2 X8 X9 X10 K (ix2 m n)
      = ∑ k ∈ Finset.range K, if h : k < 15 then ∑ p : Fin 640, arg8.view.read (Elt Ideal) X8
            (ix2 m ⟨640 * k + p.val, by omega⟩)
          * wsp (arg2.view.read (Elt Ideal) X2) (arg9.view.read (Elt Ideal) X9) (arg10.view.read (Elt Ideal) X10)
              ⟨k, h⟩ p n else 0 := by
  intro K
  induction K with
  | zero =>
    intro _
    exact Ideal.ofBits_zero_f32
  | succ K ih =>
    intro hK
    have hk : K < k0_t3_loop.trips := by rw [trips3]; omega
    have e : accN (F := Ideal) arg2 arg8 arg9 arg10 X2 X8 X9 X10 (K + 1)
        = accStep arg2 arg8 arg9 arg10 X2 X8 X9 X10 ⟨K, hk⟩ (accN arg2 arg8 arg9 arg10 X2 X8 X9 X10 K) := dif_pos hk
    rw [e, accStep_val, ih (by omega), Finset.sum_range_succ, dif_pos (show K < 15 by omega)]
    rfl

/-- The accumulator after the loop. -/
theorem accN_end (m : Fin 192) (n : Fin 640) :
    accN (F := Ideal) arg2 arg8 arg9 arg10 X2 X8 X9 X10 k0_t3_loop.trips (ix2 m n)
      = ∑ k : Fin 15, ∑ p : Fin 640, arg8.view.read (Elt Ideal) X8
            (ix2 m ⟨640 * k.val + p.val, by omega⟩)
          * wsp (arg2.view.read (Elt Ideal) X2) (arg9.view.read (Elt Ideal) X9) (arg10.view.read (Elt Ideal) X10) k p n := by
  rw [trips3, accN_val arg2 arg9 arg10 X2 X9 X10 arg8 X8 m n 15 le_rfl, Finset.sum_range]
  exact Finset.sum_congr rfl fun k _ => dif_pos k.isLt

end Tiles

end AtIdeal

end Cert.KernelIdeal.Hand

end
-- ==== Proof.Permute.lean ====
/- The permutation of the activations: what the first point of a row of the grid stores in its scratch. -/
module

public import proofs.«01_k».proof.Proof.Acc
public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

section Generic
variable {F : FTy → Type} [FloatOps F]

/-- Lanes of a chunk taken at an index vector (negative lanes counted from the end). -/
def gat (x : FVec F S16x128 .f32) (ix : IVec S16x128 32) : FVec F S16x128 .f32 :=
  dynamicGather 1 x (shapeCast S16x128 (shapeCast S16x128x1
    (select (cmpi .slt (andi ix (broadcast S16x128 127#32)) (broadcast S16x128 0#32))
      (addi (andi ix (broadcast S16x128 127#32)) (broadcast S16x128 128#32)) (andi ix (broadcast S16x128 127#32)))
    shapeCasts_S16x128_S16x128x1) shapeCasts_S16x128x1_S16x128)

/-- The chunk an index names, out of those that occur (`a` and those of the list), gathered. -/
def chain (xs : Fin 5 → FVec F S16x128 .f32) (ix : IVec S16x128 32) (a : Fin 5) : List (Fin 5) → FVec F S16x128 .f32
  | [] => gat (xs a) ix
  | t :: l => select (cmpi .eq (shrsi ix (broadcast S16x128 7#32)) (broadcast S16x128 (BitVec.ofNat 32 t.val)))
      (gat (xs t) ix) (chain xs ix a l)

/-- One stored chunk: the gathered lanes times the powers of two. -/
def perm (xs : Fin 5 → FVec F S16x128 .f32) (I : IVec S8x128 32) (P : FVec F S16x128 .bf16) (a : Fin 5) (l : List (Fin 5)) :
    FVec F S16x128 .bf16 :=
  shapeCast S16x128 (mulf (truncf .bf16 (chain xs
    (concatenate S16x128 0 [⟨S8x128, I⟩, ⟨S8x128, I⟩] concatenates_S8x128_S8x128_S16x128_d0) a l) bitsLt_bf16_f32) P)
    shapeCasts_S16x128_S16x128

/-- The chunks of a row block read from the activations. -/
def chunks (i : grid0.Coords) (arg1 : Memref sig .tc .vmem S192x9600 .bf16) (h1 : k0_cond1 i = 1#1)
    (X1 : BufTy.Contents (Elt F) arg1.view.ty) (k1 : Fin k0_t1_loop.trips) (k2 : Fin k0_t2_loop.trips) (t : Fin 5) :
    FVec F S16x128 .f32 :=
  extf .f32 (shapeCast S16x128 (View.readAt (Elt F) arg1.view
    (Rect.unit (s := S192x9600) (k0_off1 k1 k2 (BitVec.ofNat 32 (128 * t.val))) S16x128.size
      (k0_off1_inb i k1 k2 h1 t)).toLoadRect X1) shapeCasts_S16x128_S16x128) bitsLt_bf16_f32

/-- The index rows of chunk `d`. -/
def idxs (arg5 : Memref sig .tc .vmem S40x128 .i32) (X5 : BufTy.Contents (Elt F) arg5.view.ty) (d : Nat)
    (h : ∀ a, (![8 * d, 0] : Fin 2 → Nat) a + S8x128.size a ≤ S40x128.size a) : IVec S8x128 32 :=
  View.readAt (Elt F) arg5.view (Rect.unit (s := S40x128) ![8 * d, 0] S8x128.size h).toLoadRect X5

/-- The powers of two of chunk `d`. -/
def pows (arg6 : Memref sig .tc .vmem S80x128 .bf16) (X6 : BufTy.Contents (Elt F) arg6.view.ty) (d : Nat)
    (h : ∀ a, (![16 * d, 0] : Fin 2 → Nat) a + S16x128.size a ≤ S80x128.size a) : FVec F S16x128 .bf16 :=
  View.readAt (Elt F) arg6.view (Rect.unit (s := S80x128) ![16 * d, 0] S16x128.size h).toLoadRect X6

theorem trip2_eq (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (h1 : k0_cond1 i = 1#1) (k1 : Fin k0_t1_loop.trips) (v : BitVec 32)
    (X1 : BufTy.Contents (Elt F) arg1.view.ty) (X5 : BufTy.Contents (Elt F) arg5.view.ty) (X6 : BufTy.Contents (Elt F) arg6.view.ty)
    (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 h1 k1 v X1 X5 X6 k
      = [⟨Rect.unit (s := S192x9600) (k0_off1 k1 k 512#32) S16x128.size (k0_off1_inb i k1 k h1 4), perm (chunks i arg1 h1 X1 k1 k) (idxs arg5 X5 4 inb_S40x128_S8x128_32_0) (pows arg6 X6 4 inb_S80x128_S16x128_64_0) 3 [4]⟩,
         ⟨Rect.unit (s := S192x9600) (k0_off1 k1 k 384#32) S16x128.size (k0_off1_inb i k1 k h1 3), perm (chunks i arg1 h1 X1 k1 k) (idxs arg5 X5 3 inb_S40x128_S8x128_24_0) (pows arg6 X6 3 inb_S80x128_S16x128_48_0) 2 [4, 3]⟩,
         ⟨Rect.unit (s := S192x9600) (k0_off1 k1 k 256#32) S16x128.size (k0_off1_inb i k1 k h1 2), perm (chunks i arg1 h1 X1 k1 k) (idxs arg5 X5 2 inb_S40x128_S8x128_16_0) (pows arg6 X6 2 inb_S80x128_S16x128_32_0) 1 [3, 2]⟩,
         ⟨Rect.unit (s := S192x9600) (k0_off1 k1 k 128#32) S16x128.size (k0_off1_inb i k1 k h1 1), perm (chunks i arg1 h1 X1 k1 k) (idxs arg5 X5 1 inb_S40x128_S8x128_8_0) (pows arg6 X6 1 inb_S80x128_S16x128_16_0) 0 [2, 1]⟩,
         ⟨Rect.unit (s := S192x9600) (k0_off1 k1 k 0#32) S16x128.size (k0_off1_inb i k1 k h1 0), perm (chunks i arg1 h1 X1 k1 k) (idxs arg5 X5 0 inb_S40x128_S8x128_0_0) (pows arg6 X6 0 inb_S80x128_S16x128_0_0) 0 [1]⟩] := by
  show (trip_k0_t2 (F := F) Variants.none c none i arg1 harg1 arg2 harg2 arg3 harg3 arg4 harg4 arg5 harg5 arg6 harg6 arg7 harg7 arg8 harg8 arg9 harg9 arg10 harg10 arg11 harg11 h1 k1 v X1 X5 X6 k).1 = _
  delta trip_k0_t2
  rfl

theorem mem_pb2 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (h1 : k0_cond1 i = 1#1) (k1 : Fin k0_t1_loop.trips) (v : BitVec 32)
    (X1 : BufTy.Contents (Elt F) arg1.view.ty) (X5 : BufTy.Contents (Elt F) arg5.view.ty) (X6 : BufTy.Contents (Elt F) arg6.view.ty)
    (p : View.Piece (Elt F) S192x9600 .bf16) : ∀ n : Nat,
    p ∈ pb_k0_t2 (F := F) Variants.none c none i arg1 harg1 arg2 harg2 arg3 harg3 arg4 harg4 arg5 harg5 arg6 harg6 arg7 harg7 arg8 harg8 arg9 harg9 arg10 harg10 arg11 harg11 h1 k1 v X1 X5 X6 n
      ↔ ∃ k : Fin k0_t2_loop.trips, k.val < n ∧ p ∈ tripL_k0_t2 (F := F) Variants.none c none i arg1 harg1 arg2 harg2 arg3 harg3 arg4 harg4 arg5 harg5 arg6 harg6 arg7 harg7 arg8 harg8 arg9 harg9 arg10 harg10 arg11 harg11 h1 k1 v X1 X5 X6 k
  | 0 => by
    rw [show pb_k0_t2 (F := F) Variants.none c none i arg1 harg1 arg2 harg2 arg3 harg3 arg4 harg4 arg5 harg5 arg6 harg6 arg7 harg7 arg8 harg8 arg9 harg9 arg10 harg10 arg11 harg11 h1 k1 v X1 X5 X6 0 = [] from rfl]
    exact ⟨fun h => absurd h List.not_mem_nil, fun ⟨k, hk, _⟩ => absurd hk (Nat.not_lt_zero _)⟩
  | n + 1 => by
    have e : pb_k0_t2 (F := F) Variants.none c none i arg1 harg1 arg2 harg2 arg3 harg3 arg4 harg4 arg5 harg5 arg6 harg6 arg7 harg7 arg8 harg8 arg9 harg9 arg10 harg10 arg11 harg11 h1 k1 v X1 X5 X6 (n + 1)
        = pb_k0_t2Step (F := F) Variants.none c none i arg1 harg1 arg2 harg2 arg3 harg3 arg4 harg4 arg5 harg5 arg6 harg6 arg7 harg7 arg8 harg8 arg9 harg9 arg10 harg10 arg11 harg11 h1 k1 v X1 X5 X6 n
          (pb_k0_t2 (F := F) Variants.none c none i arg1 harg1 arg2 harg2 arg3 harg3 arg4 harg4 arg5 harg5 arg6 harg6 arg7 harg7 arg8 harg8 arg9 harg9 arg10 harg10 arg11 harg11 h1 k1 v X1 X5 X6 n) := rfl
    have ih := mem_pb2 c i arg1 harg1 arg2 harg2 arg3 harg3 arg4 harg4 arg5 harg5 arg6 harg6 arg7 harg7 arg8 harg8 arg9 harg9 arg10 harg10 arg11 harg11 h1 k1 v X1 X5 X6 p n
    rw [e, pb_k0_t2Step]
    by_cases hn : n < k0_t2_loop.trips
    · rw [dif_pos hn, List.mem_append, ih]
      constructor
      · rintro (h | ⟨k, hk, h⟩)
        · exact ⟨⟨n, hn⟩, Nat.lt_succ_self _, h⟩
        · exact ⟨k, Nat.lt_succ_of_lt hk, h⟩
      · rintro ⟨k, hk, h⟩
        rcases Nat.lt_succ_iff_lt_or_eq.mp hk with hk | hk
        · exact .inr ⟨k, hk, h⟩
        · obtain rfl : k = ⟨n, hn⟩ := Fin.ext hk
          exact .inl h
    · rw [dif_neg hn, ih]
      exact ⟨fun ⟨k, hk, h⟩ => ⟨k, Nat.lt_succ_of_lt hk, h⟩,
        fun ⟨k, hk, h⟩ => ⟨k, Nat.lt_of_lt_of_le k.isLt (Nat.not_lt.mp hn), h⟩⟩

/-- The pieces the permutation stores: those of every chunk row of every block. -/
theorem mem_pb1 (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (h1 : k0_cond1 i = 1#1)
    (X1 : BufTy.Contents (Elt F) arg1.view.ty) (X5 : BufTy.Contents (Elt F) arg5.view.ty) (X6 : BufTy.Contents (Elt F) arg6.view.ty)
    (p : View.Piece (Elt F) S192x9600 .bf16) : ∀ n : Nat, n ≤ k0_t1_loop.trips →
    (p ∈ pb1 (F := F) c i arg1 harg1 arg2 harg2 arg3 harg3 arg4 harg4 arg5 harg5 arg6 harg6 arg7 harg7 arg8 harg8 arg9 harg9 arg10 harg10 arg11 harg11 h1 X1 X5 X6 n
      ↔ ∃ (k1 : Fin k0_t1_loop.trips) (k : Fin k0_t2_loop.trips), k1.val < n ∧
          p ∈ tripL_k0_t2 (F := F) Variants.none c none i arg1 harg1 arg2 harg2 arg3 harg3 arg4 harg4 arg5 harg5 arg6 harg6 arg7 harg7 arg8 harg8 arg9 harg9 arg10 harg10 arg11 harg11 h1 k1
            (Scalar.addi 0#32 (Scalar.muli (Scf.iv 0#32 1#32 k1.val) 1#32)) X1 X5 X6 k)
  | 0, _ => by
    rw [show pb1 (F := F) c i arg1 harg1 arg2 harg2 arg3 harg3 arg4 harg4 arg5 harg5 arg6 harg6 arg7 harg7 arg8 harg8 arg9 harg9 arg10 harg10 arg11 harg11 h1 X1 X5 X6 0 = [] from rfl]
    exact ⟨fun h => absurd h List.not_mem_nil, fun ⟨k, _, hk, _⟩ => absurd hk (Nat.not_lt_zero _)⟩
  | n + 1, hn => by
    have ih := mem_pb1 c i arg1 harg1 arg2 harg2 arg3 harg3 arg4 harg4 arg5 harg5 arg6 harg6 arg7 harg7 arg8 harg8 arg9 harg9 arg10 harg10 arg11 harg11 h1 X1 X5 X6 p n (Nat.le_of_lt hn)
    have e := pb1_succ (F := F) c i arg1 harg1 arg2 harg2 arg3 harg3 arg4 harg4 arg5 harg5 arg6 harg6 arg7 harg7 arg8 harg8 arg9 harg9 arg10 harg10 arg11 harg11 h1 X1 X5 X6 ⟨n, hn⟩
    rw [e, List.mem_append, mem_pb2, ih]
    constructor
    · rintro (⟨k, _, h⟩ | ⟨k1, k, hk, h⟩)
      · exact ⟨⟨n, hn⟩, k, Nat.lt_succ_self _, h⟩
      · exact ⟨k1, k, Nat.lt_succ_of_lt hk, h⟩
    · rintro ⟨k1, k, hk, h⟩
      rcases Nat.lt_succ_iff_lt_or_eq.mp hk with hk | hk
      · exact .inr ⟨k1, k, hk, h⟩
      · obtain rfl : k1 = ⟨n, hn⟩ := Fin.ext hk
        exact .inl ⟨k, k.isLt, h⟩

end Generic

section AtIdeal

theorem trips1 : k0_t1_loop.trips = 15 := by decide

theorem trips2 : k0_t2_loop.trips = 12 := by decide

theorem lane_of : ∀ s : Fin 640,
    (if (BitVec.ofBool ((BitVec.ofNat 32 s.val &&& 127#32).slt 0#32)) = 1#1
      then (BitVec.ofNat 32 s.val &&& 127#32) + 128#32 else BitVec.ofNat 32 s.val &&& 127#32).toNat % 128 = s.val % 128 := by
  decide +kernel

theorem chunk_of : ∀ (s : Fin 640) (t : Fin 5),
    (BitVec.ofBool ((BitVec.ofNat 32 s.val).sshiftRight' 7#32 == BitVec.ofNat 32 t.val)) = 1#1 ↔ s.val / 128 = t.val := by
  decide +kernel

theorem gat_val (x : FVec Ideal S16x128 .f32) (ix : IVec S16x128 32) (r : Fin 16) (q : Fin 128) (s : Fin 640)
    (h : ix (ix2 r q) = BitVec.ofNat 32 s.val) :
    gat x ix (ix2 r q) = x (ix2 r ⟨s.val % 128, Nat.mod_lt _ (by decide)⟩) := by
  unfold gat
  rw [shapeCast_shapeCast]
  refine congrArg x ?_
  funext b
  fin_cases b
  · rfl
  · refine Fin.ext ?_
    have := lane_of s
    rw [← h] at this
    exact this

theorem chain_val (xs : Fin 5 → FVec Ideal S16x128 .f32) (ix : IVec S16x128 32) (a : Fin 5) (r : Fin 16) (q : Fin 128) (s : Fin 640)
    (h : ix (ix2 r q) = BitVec.ofNat 32 s.val) : ∀ l : List (Fin 5), (⟨s.val / 128, by omega⟩ : Fin 5) ∈ a :: l →
    chain xs ix a l (ix2 r q) = xs ⟨s.val / 128, by omega⟩ (ix2 r ⟨s.val % 128, Nat.mod_lt _ (by decide)⟩)
  | [], hm => by
    obtain rfl := List.mem_singleton.mp hm
    exact gat_val _ _ _ _ _ h
  | t :: l, hm => by
    have e := chunk_of s t
    rw [← h] at e
    change (if _ then gat (xs t) ix (ix2 r q) else chain xs ix a l (ix2 r q)) = _
    by_cases ht : s.val / 128 = t.val
    · refine (if_pos (e.mpr ht)).trans ((gat_val _ _ _ _ _ h).trans ?_)
      exact congrArg (fun u : Fin 5 => xs u (ix2 r ⟨s.val % 128, Nat.mod_lt _ (by decide)⟩)) (Fin.ext ht.symm)
    · refine (if_neg (fun h' => ht (e.mp h'))).trans (chain_val xs ix a r q s h l ?_)
      rcases List.mem_cons.mp hm with hm | hm
      · exact hm ▸ List.mem_cons_self
      · rcases List.mem_cons.mp hm with hm | hm
        · exact absurd (congrArg Fin.val hm) ht
        · exact List.mem_cons_of_mem _ hm

/-- The power of two of column `p` of a block, inverted. -/
def inv2 (p : Nat) : EReal := ((((2 : ℝ) ^ qq p)⁻¹ : ℝ) : EReal)

theorem perm_val (xs : Fin 5 → FVec Ideal S16x128 .f32) (I : IVec S8x128 32) (P : FVec Ideal S16x128 .bf16) (a : Fin 5)
    (l : List (Fin 5)) (d : Fin 5) (x : Fin 16 → Fin 640 → EReal)
    (hx : ∀ (t : Fin 5) (r : Fin 16) (q : Fin 128), xs t (ix2 r q) = x r ⟨128 * t.val + q.val, by omega⟩)
    (hI : ∀ (r : Fin 8) (q : Fin 128), I (ix2 r q) = BitVec.ofNat 32 (src (128 * d.val + q.val)))
    (hP : ∀ (r : Fin 16) (q : Fin 128), P (ix2 r q) = inv2 (128 * d.val + q.val))
    (hs : ∀ q : Fin 128, (⟨src (128 * d.val + q.val) / 128, by have := src_lt (128 * d.val + q.val); omega⟩ : Fin 5) ∈ a :: l)
    (r : Fin 16) (q : Fin 128) :
    perm xs I P a l (ix2 r q) = x r ⟨src (128 * d.val + q.val), src_lt _⟩ * inv2 (128 * d.val + q.val) := by
  unfold perm
  rw [shapeCast_self]
  change (chain xs _ a l (ix2 r q) : EReal) * P (ix2 r q) = _
  rw [hP]
  refine congrArg (· * _) ?_
  have hi : (concatenate S16x128 0 [⟨S8x128, I⟩, ⟨S8x128, I⟩] concatenates_S8x128_S8x128_S16x128_d0 : IVec S16x128 32) (ix2 r q)
      = BitVec.ofNat 32 (⟨src (128 * d.val + q.val), src_lt _⟩ : Fin 640).val := by
    by_cases hr : r.val < 8
    · exact (concatenate_apply_piece (t := S16x128) 0 [⟨S8x128, I⟩, ⟨S8x128, I⟩]
        concatenates_S8x128_S8x128_S16x128_d0 (ix2 r q) 0 (Nat.succ_pos _) S8x128 I rfl rfl 0 rfl (ix2 ⟨r.val, hr⟩ q)
        (fun b hb => by fin_cases b <;> first | rfl | exact absurd rfl hb) (Nat.zero_add _)).trans (hI _ _)
    · exact (concatenate_apply_piece (t := S16x128) 0 [⟨S8x128, I⟩, ⟨S8x128, I⟩]
        concatenates_S8x128_S8x128_S16x128_d0 (ix2 r q) 1 (Nat.succ_lt_succ (Nat.succ_pos _)) S8x128 I rfl rfl 8 rfl
        (ix2 ⟨r.val - 8, by omega⟩ q)
        (fun b hb => by fin_cases b <;> first | rfl | exact absurd rfl hb) (by show 8 + (r.val - 8) = r.val; omega)).trans (hI _ _)
  rw [chain_val xs _ a r q ⟨_, src_lt _⟩ hi l (hs q), hx]
  exact congrArg (x r) (Fin.ext (by simp only []; omega))

/-- The permuted activations: within each block of 640 columns column `p` holds the activation of column `src p`, over the
    power of two its weights carry. -/
def xperm (x0 : FVec Ideal S192x9600 .bf16) : FVec Ideal S192x9600 .bf16 := fun y =>
  (x0 (ix2 (y 0) ⟨640 * ((y 1).val / 640) + src ((y 1).val % 640), by
    have h1 := (y 1).isLt
    have h2 := src_lt ((y 1).val % 640)
    change (y 1).val < 9600 at h1
    show _ < 9600
    omega⟩) : EReal) * inv2 ((y 1).val % 640)

/-- The chunks an output chunk takes lanes from. -/
theorem src_sets : ∀ q : Fin 128,
    src (128 * 0 + q.val) / 128 ∈ [0, 1] ∧ src (128 * 1 + q.val) / 128 ∈ [0, 2, 1]
    ∧ src (128 * 2 + q.val) / 128 ∈ [1, 3, 2] ∧ src (128 * 3 + q.val) / 128 ∈ [2, 4, 3]
    ∧ src (128 * 4 + q.val) / 128 ∈ [3, 4] := by
  decide +kernel

theorem fin5_mem {n : Nat} {h : n < 5} (a : Fin 5) (l : List (Fin 5)) (hm : n ∈ (a :: l).map Fin.val) : (⟨n, h⟩ : Fin 5) ∈ a :: l := by
  obtain ⟨b, hb, e⟩ := List.mem_map.mp hm
  obtain rfl : b = ⟨n, h⟩ := Fin.ext e
  exact hb

theorem row8 (d : Fin 5) (r : Fin 8) : 8 * d.val + r.val < 40 := by omega

theorem row16_lt (d : Fin 5) (r : Fin 16) : 16 * d.val + r.val < 80 := by omega

/-- The index table: eight equal rows per chunk, the source column of each lane. -/
def IdxTab (x : IVec S40x128 32) : Prop := ∀ (d : Fin 5) (r : Fin 8) (q : Fin 128),
  x (ix2 ⟨8 * d.val + r.val, row8 d r⟩ q) = BitVec.ofNat 32 (src (128 * d.val + q.val))

/-- The table of powers of two: sixteen equal rows per chunk. -/
def PowTab (x : FVec Ideal S80x128 .bf16) : Prop := ∀ (d : Fin 5) (r : Fin 16) (q : Fin 128),
  x (ix2 ⟨16 * d.val + r.val, row16_lt d r⟩ q) = inv2 (128 * d.val + q.val)

section Read
variable (arg1 : Memref sig .tc .vmem S192x9600 .bf16) (arg5 : Memref sig .tc .vmem S40x128 .i32) (arg6 : Memref sig .tc .vmem S80x128 .bf16)
  (i : grid0.Coords) (h1 : k0_cond1 i = 1#1)
  (X1 : BufTy.Contents (Elt Ideal) arg1.view.ty) (X5 : BufTy.Contents (Elt Ideal) arg5.view.ty) (X6 : BufTy.Contents (Elt Ideal) arg6.view.ty)
  (hI : IdxTab (arg5.view.read (Elt Ideal) X5)) (hP : PowTab (arg6.view.read (Elt Ideal) X6))

include hI hP

/-- One stored chunk agrees with the permuted activations. -/
theorem piece_val (k1 : Fin k0_t1_loop.trips) (k2 : Fin k0_t2_loop.trips) (d : Fin 5) (a : Fin 5) (l : List (Fin 5))
    (h5 : ∀ a, (![8 * d.val, 0] : Fin 2 → Nat) a + S8x128.size a ≤ S40x128.size a)
    (h6 : ∀ a, (![16 * d.val, 0] : Fin 2 → Nat) a + S16x128.size a ≤ S80x128.size a)
    (hs : ∀ q : Fin 128, src (128 * d.val + q.val) / 128 ∈ (a :: l).map Fin.val) (x : S16x128.Idx) :
    perm (chunks i arg1 h1 X1 k1 k2) (idxs arg5 X5 d.val h5) (pows arg6 X6 d.val h6) a l x
      = xperm (arg1.view.read (Elt Ideal) X1) ((Rect.unit (s := S192x9600) (k0_off1 k1 k2 (BitVec.ofNat 32 (128 * d.val))) S16x128.size
          (k0_off1_inb i k1 k2 h1 d)).emb x) := by
  have hk1 : k1.val < 15 := trips1 ▸ k1.isLt
  have hk2 : k2.val < 12 := trips2 ▸ k2.isLt
  obtain ⟨r, q, rfl⟩ : ∃ r q, x = ix2 r q := ⟨_, _, eq_ix2 x⟩
  have key := perm_val (chunks i arg1 h1 X1 k1 k2) (idxs arg5 X5 d.val h5) (pows arg6 X6 d.val h6) a l d
    (fun r p => (arg1.view.read (Elt Ideal) X1 : FVec Ideal S192x9600 .bf16) (ix2 ⟨16 * k2.val + r.val, by omega⟩ ⟨640 * k1.val + p.val, by omega⟩))
    (fun t r q => by
      have e := k0_off1_eq k1 k2 t
      have hw : ∀ (v : FVec Ideal S16x128 .bf16) (x : S16x128.Idx),
          (extf .f32 (shapeCast S16x128 v shapeCasts_S16x128_S16x128) bitsLt_bf16_f32 : FVec Ideal S16x128 .f32) x = v x :=
        fun v x => congrFun (shapeCast_self v shapeCasts_S16x128_S16x128) x
      refine (hw _ _).trans ?_
      refine congrArg (arg1.view.read (Elt Ideal) X1) (funext fun b => Fin.ext ?_)
      fin_cases b
      · exact (congrArg (· + 1 * r.val) (congrFun e 0)).trans (congrArg (16 * k2.val + ·) (Nat.one_mul _))
      · exact (congrArg (· + 1 * q.val) (congrFun e 1)).trans ((congrArg (640 * k1.val + 128 * t.val + ·) (Nat.one_mul _)).trans (Nat.add_assoc _ _ _)))
    (fun r q => by
      refine Eq.trans (congrArg (arg5.view.read (Elt Ideal) X5) (funext fun b => Fin.ext ?_)) (hI d r q)
      fin_cases b
      · exact congrArg (8 * d.val + ·) (Nat.one_mul _)
      · exact (Nat.zero_add _).trans (Nat.one_mul _))
    (fun r q => by
      refine Eq.trans (congrArg (arg6.view.read (Elt Ideal) X6) (funext fun b => Fin.ext ?_)) (hP d r q)
      fin_cases b
      · exact congrArg (16 * d.val + ·) (Nat.one_mul _)
      · exact (Nat.zero_add _).trans (Nat.one_mul _))
    (fun q => fin5_mem a l (hs q)) r q
  refine key.trans ?_
  have e := k0_off1_eq k1 k2 d
  have e0 : ((Rect.unit (s := S192x9600) (k0_off1 k1 k2 (BitVec.ofNat 32 (128 * d.val))) S16x128.size
      (k0_off1_inb i k1 k2 h1 d)).emb (ix2 r q) 0).val = 16 * k2.val + r.val :=
    (congrArg (· + 1 * r.val) (congrFun e 0)).trans (congrArg (16 * k2.val + ·) (Nat.one_mul _))
  have e1 : ((Rect.unit (s := S192x9600) (k0_off1 k1 k2 (BitVec.ofNat 32 (128 * d.val))) S16x128.size
      (k0_off1_inb i k1 k2 h1 d)).emb (ix2 r q) 1).val = 640 * k1.val + (128 * d.val + q.val) :=
    (congrArg (· + 1 * q.val) (congrFun e 1)).trans ((congrArg (640 * k1.val + 128 * d.val + ·) (Nat.one_mul _)).trans (Nat.add_assoc _ _ _))
  unfold xperm
  have m1 : (640 * k1.val + (128 * d.val + q.val)) / 640 = k1.val := by omega
  have m2 : (640 * k1.val + (128 * d.val + q.val)) % 640 = 128 * d.val + q.val := by omega
  refine congrArg₂ (fun a b : EReal => a * b) (congrArg (arg1.view.read (Elt Ideal) X1) (funext fun b => Fin.ext ?_)) ?_
  · fin_cases b
    · exact e0.symm
    · show 640 * k1.val + src (128 * d.val + q.val) = 640 * (_ / 640) + src (_ % 640)
      rw [e1, m1, m2]
  · rw [e1, m2]

/-- The scratch after the permutation: the permuted activations, whatever it held. -/
theorem read_perm (c : Dev nD) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (harg5 : arg5.IsWhole) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole) (f : BufTy.Contents (Elt Ideal) arg8.view.ty) :
    arg8.view.read (Elt Ideal) (arg8.view.writes (Elt Ideal) f (pb1 (F := Ideal) c i arg1 harg1 arg2 harg2 arg3 harg3 arg4 harg4 arg5 harg5 arg6 harg6 arg7 harg7 arg8 harg8 arg9 harg9 arg10 harg10 arg11 harg11 h1 X1 X5 X6 k0_t1_loop.trips))
      = xperm (arg1.view.read (Elt Ideal) X1) := by
  funext y
  refine View.read_writes_apply_of_pieces arg8.view f (xperm (arg1.view.read (Elt Ideal) X1)) _ ?_ y ?_
  · intro p hp x
    obtain ⟨k1, k2, _, h⟩ := (mem_pb1 c i arg1 harg1 arg2 harg2 arg3 harg3 arg4 harg4 arg5 harg5 arg6 harg6 arg7 harg7 arg8 harg8 arg9 harg9 arg10 harg10 arg11 harg11 h1 X1 X5 X6 p _ (Nat.le_refl _)).mp hp
    rw [trip2_eq] at h
    rcases List.mem_cons.mp h with rfl | h
    · exact piece_val arg1 arg5 arg6 i h1 X1 X5 X6 hI hP k1 k2 4 3 [4] _ _ (fun q => (src_sets q).2.2.2.2) x
    rcases List.mem_cons.mp h with rfl | h
    · exact piece_val arg1 arg5 arg6 i h1 X1 X5 X6 hI hP k1 k2 3 2 [4, 3] _ _ (fun q => (src_sets q).2.2.2.1) x
    rcases List.mem_cons.mp h with rfl | h
    · exact piece_val arg1 arg5 arg6 i h1 X1 X5 X6 hI hP k1 k2 2 1 [3, 2] _ _ (fun q => (src_sets q).2.2.1) x
    rcases List.mem_cons.mp h with rfl | h
    · exact piece_val arg1 arg5 arg6 i h1 X1 X5 X6 hI hP k1 k2 1 0 [2, 1] _ _ (fun q => (src_sets q).2.1) x
    obtain rfl := List.mem_singleton.mp h
    exact piece_val arg1 arg5 arg6 i h1 X1 X5 X6 hI hP k1 k2 0 0 [1] _ _ (fun q => (src_sets q).1) x
  · have hy0 : (y 0).val < 192 := (y 0).isLt
    have hy1 : (y 1).val < 9600 := (y 1).isLt
    let k1 : Fin k0_t1_loop.trips := ⟨(y 1).val / 640, by rw [trips1]; omega⟩
    let k2 : Fin k0_t2_loop.trips := ⟨(y 0).val / 16, by rw [trips2]; omega⟩
    have cover : ∀ (d : Fin 5), (y 1).val % 640 / 128 = d.val →
        y ∈ (Rect.unit (s := S192x9600) (k0_off1 k1 k2 (BitVec.ofNat 32 (128 * d.val))) S16x128.size (k0_off1_inb i k1 k2 h1 d)).set := by
      intro d hd
      have e := k0_off1_eq k1 k2 d
      refine (Rect.unit _ _ _).mem_set.mpr fun b => ?_
      fin_cases b
      · refine ⟨(y 0).val % 16, Nat.mod_lt _ (by decide), ?_⟩
        refine Eq.trans ?_ ((congrArg (· + 1 * ((y 0).val % 16)) (congrFun e 0)).trans (congrArg (16 * k2.val + ·) (Nat.one_mul _))).symm
        show (y 0).val = 16 * ((y 0).val / 16) + (y 0).val % 16
        omega
      · refine ⟨(y 1).val % 128, Nat.mod_lt _ (by decide), ?_⟩
        refine Eq.trans ?_ ((congrArg (· + 1 * ((y 1).val % 128)) (congrFun e 1)).trans (congrArg (640 * k1.val + 128 * d.val + ·) (Nat.one_mul _))).symm
        show (y 1).val = 640 * ((y 1).val / 640) + 128 * d.val + (y 1).val % 128
        omega
    have hd : (y 1).val % 640 / 128 < 5 := by omega
    have mem : ∀ p ∈ tripL_k0_t2 (F := Ideal) Variants.none c none i arg1 harg1 arg2 harg2 arg3 harg3 arg4 harg4 arg5 harg5 arg6 harg6 arg7 harg7 arg8 harg8 arg9 harg9 arg10 harg10 arg11 harg11 h1 k1
          (Scalar.addi 0#32 (Scalar.muli (Scf.iv 0#32 1#32 k1.val) 1#32)) X1 X5 X6 k2,
        p ∈ pb1 (F := Ideal) c i arg1 harg1 arg2 harg2 arg3 harg3 arg4 harg4 arg5 harg5 arg6 harg6 arg7 harg7 arg8 harg8 arg9 harg9 arg10 harg10 arg11 harg11 h1 X1 X5 X6 k0_t1_loop.trips :=
      fun p hp => (mem_pb1 c i arg1 harg1 arg2 harg2 arg3 harg3 arg4 harg4 arg5 harg5 arg6 harg6 arg7 harg7 arg8 harg8 arg9 harg9 arg10 harg10 arg11 harg11 h1 X1 X5 X6 p _ (Nat.le_refl _)).mpr ⟨k1, k2, k1.isLt, hp⟩
    rw [trip2_eq] at mem
    generalize hg : (y 1).val % 640 / 128 = g at hd cover
    match g, hd with
    | 0, _ => exact ⟨_, mem _ (.tail _ (.tail _ (.tail _ (.tail _ (.head _))))), cover 0 rfl⟩
    | 1, _ => exact ⟨_, mem _ (.tail _ (.tail _ (.tail _ (.head _)))), cover 1 rfl⟩
    | 2, _ => exact ⟨_, mem _ (.tail _ (.tail _ (.head _))), cover 2 rfl⟩
    | 3, _ => exact ⟨_, mem _ (.tail _ (.head _)), cover 3 rfl⟩
    | 4, _ => exact ⟨_, mem _ (.head _), cover 4 rfl⟩

end Read

end AtIdeal

end Cert.KernelIdeal.Hand
-- ==== Proof.Tables.lean ====
/- The two constant tables of the program: the source columns of the permutation, and the powers of two its weights carry. -/
module

public import proofs.«01_k».proof.Proof.Permute

@[expose] public section

set_option maxRecDepth 65536

noncomputable section

namespace Cert.KernelIdeal.Hand

open Cert.KernelIdeal Cert.KernelIdeal.Gen
open Idealize.ShloMosaic Idealize.ShloMosaic.TcCoe Idealize.ShloMosaic.ValueIdx

set_option maxHeartbeats 4000000 in
theorem lit0_all : ∀ k : Fin 5120, lit0 k = BitVec.ofNat 32 (src (128 * (k.val / 1024) + k.val % 128)) := by
  decide +kernel

set_option maxHeartbeats 4000000 in
theorem lit1_all : ∀ k : Fin 10240, lit1 k = BitVec.ofNat 16 (128 * (127 - qq (128 * (k.val / 2048) + k.val % 128))) := by
  decide +kernel

end Cert.KernelIdeal.Hand
-- ==== Proof.Point.lean ====
/- What one grid point stores: the block of products of the permuted activations with the dequantized weights. -/
module

public import proofs.«01_k».proof.Proof.Permute

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- A three-bit field read by an arithmetic shift and a mask. -/
theorem code_shrsi (U : ArithUnit) (u : BitVec 32) (s : BitVec 32) (hs : s.toNat ≤ 29) :
    (IntOp.shrsi U u s &&& 7#32).toInt = (code u s.toNat : Int) := by
  have hs' : s.toNat < 32 := by omega
  have e : (IntOp.shrsi U u s &&& 7#32) = (u >>> s.toNat) &&& 7#32 := by
    unfold IntOp.shrsi
    rw [if_pos hs']
    refine BitVec.eq_of_getLsbD_eq fun i hi => ?_
    simp only [BitVec.getLsbD_and, BitVec.getLsbD_ushiftRight]
    by_cases h3 : i < 3
    · congr 1
      rw [BitVec.sshiftRight_eq', BitVec.getLsbD_sshiftRight]
      have h1 : ¬ 32 ≤ i := by omega
      have h2 : s.toNat + i < 32 := by omega
      simp [h1, h2]
    · have : (7#32).getLsbD i = false := by
        have : ∀ j : Fin 32, ¬ j.val < 3 → (7#32).getLsbD j.val = false := by decide
        exact this ⟨i, hi⟩ h3
      rw [this, Bool.and_false, Bool.and_false]
  rw [e, BitVec.toInt_eq_toNat_of_lt]
  · rfl
  · have : ((u >>> s.toNat) &&& 7#32).toNat < 8 := code_lt u s.toNat
    omega

/-- The zero points of the columns of a grid point: field `2 i + n / 320` of the packed word of column `n % 320`. -/
def zpt (i : grid0.Coords) (z : IVec S75x320 32) : FVec Ideal S75x640 .f32 := fun y =>
  (((code (z (ix2 (y 0) ⟨(y 1).val % 320, Nat.mod_lt _ (by decide)⟩)) (6 * (i 0).val + 3 * ((y 1).val / 320)) : ℕ) : ℝ) : EReal)

/-- The block a grid point stores, from the permuted activations, the words, the scales and the packed zero points. -/
def pout (i : grid0.Coords) (xp : FVec Ideal S192x9600 .bf16) (w : IVec S960x640 32) (s : FVec Ideal S75x640 .f32)
    (z : IVec S75x320 32) : FVec Ideal S192x640 .bf16 := fun y =>
  ∑ k : Fin 15, ∑ p : Fin 640, (xp (ix2 (y 0) ⟨640 * k.val + p.val, by omega⟩) : EReal) * wsp w s (zpt i z) k p (y 1)

theorem grid_lt (i : grid0.Coords) : (i 0).val < 5 := (i 0).isLt

theorem pay489_val (i : grid0.Coords) (z : IVec S75x320 32) (x : S75x320.Idx) :
    (k0_pay489 (F := Ideal) i z x : EReal) = (((code (z x) (6 * (i 0).val) : ℕ) : ℝ) : EReal) := by
  have h5 := grid_lt i
  have hs : (Scalar.muli 6#32 (BitVec.ofNat 32 (i 0).val)).toNat = 6 * (i 0).val := by
    have : ∀ n : Fin 5, (Scalar.muli 6#32 (BitVec.ofNat 32 n.val)).toNat = 6 * n.val := by decide
    exact this ⟨_, h5⟩
  have hw : ∀ v : FVec Ideal S75x320 .f32, shapeCast S75x320 v shapeCasts_S75x320_S75x320 x = v x :=
    fun v => congrFun (shapeCast_self v _) x
  unfold k0_pay489
  refine (hw _).trans ?_
  have e := code_shrsi .vector (z x) (Scalar.muli 6#32 (BitVec.ofNat 32 (i 0).val)) (by omega)
  rw [hs] at e
  change (((IntOp.shrsi .vector (z x) (Scalar.muli 6#32 (BitVec.ofNat 32 (i 0).val)) &&& 7#32).toInt : ℝ) : EReal) = _
  rw [e, Int.cast_natCast]

theorem pay490_val (i : grid0.Coords) (z : IVec S75x320 32) (x : S75x320.Idx) :
    (k0_pay490 (F := Ideal) i z x : EReal) = (((code (z x) (6 * (i 0).val + 3) : ℕ) : ℝ) : EReal) := by
  have h5 := grid_lt i
  have hs : (Scalar.addi (Scalar.muli 6#32 (BitVec.ofNat 32 (i 0).val)) 3#32).toNat = 6 * (i 0).val + 3 := by
    have : ∀ n : Fin 5, (Scalar.addi (Scalar.muli 6#32 (BitVec.ofNat 32 n.val)) 3#32).toNat = 6 * n.val + 3 := by decide
    exact this ⟨_, h5⟩
  have hw : ∀ v : FVec Ideal S75x320 .f32, shapeCast S75x320 v shapeCasts_S75x320_S75x320 x = v x :=
    fun v => congrFun (shapeCast_self v _) x
  unfold k0_pay490
  refine (hw _).trans ?_
  have e := code_shrsi .vector (z x) (Scalar.addi (Scalar.muli 6#32 (BitVec.ofNat 32 (i 0).val)) 3#32) (by omega)
  rw [hs] at e
  change (((IntOp.shrsi .vector (z x) (Scalar.addi (Scalar.muli 6#32 (BitVec.ofNat 32 (i 0).val)) 3#32) &&& 7#32).toInt : ℝ) : EReal) = _
  rw [e, Int.cast_natCast]

/-- A whole load of a whole buffer holding `x`. -/
theorem ld_unread {s : Shape} {e : EltTy} (arg : Memref sig .tc .vmem s e) (harg : arg.IsWhole) (x : Vec Ideal s e)
    (r : LoadRect s) (y : r.shape.Idx) : View.readAt (Elt Ideal) arg.view r (harg.unread x) y = x (r.idx y) :=
  congrFun (harg.read_unread x) (r.idx y)

theorem read_zpt (arg10 : Memref sig .tc .vmem S75x640 .f32) (f : BufTy.Contents (Elt Ideal) arg10.view.ty) (i : grid0.Coords)
    (z z' : IVec S75x320 32) (hz : z = z') :
    arg10.view.read (Elt Ideal) (arg10.view.writes (Elt Ideal) f
      [⟨Rect.unit (s := S75x640) ![0, 320] S75x320.size inb_S75x640_S75x320_0_320, k0_pay490 (F := Ideal) i z⟩,
       ⟨Rect.unit (s := S75x640) ![0, 0] S75x320.size inb_S75x640_S75x320_0_0, k0_pay489 (F := Ideal) i z⟩])
      = zpt i z' := by
  subst hz
  funext y
  have hy0 : (y 0).val < 75 := (y 0).isLt
  have hy1 : (y 1).val < 640 := (y 1).isLt
  refine View.read_writes_apply_of_pieces arg10.view f (zpt i z) _ ?_ y ?_
  · intro p hp x
    have hx1 : (x 1).val < 320 := by
      rcases List.mem_cons.mp hp with rfl | hp
      · exact (x 1).isLt
      · obtain rfl := List.mem_singleton.mp hp
        exact (x 1).isLt
    rcases List.mem_cons.mp hp with rfl | hp
    · refine (pay490_val i z x).trans ?_
      have e1 : 320 + 1 * (x 1).val = 320 + (x 1).val := by omega
      show _ = (((code (z (ix2 ⟨0 + 1 * (x 0).val, _⟩ ⟨(320 + 1 * (x 1).val) % 320, _⟩)) (6 * (i 0).val + 3 * ((320 + 1 * (x 1).val) / 320)) : ℕ) : ℝ) : EReal)
      have e2 : (320 + 1 * (x 1).val) / 320 = 1 := by omega
      rw [e2]
      refine congrArg (fun u : BitVec 32 => (((code u (6 * (i 0).val + 3) : ℕ) : ℝ) : EReal)) (congrArg z (funext fun b => Fin.ext ?_))
      fin_cases b
      · show (x 0).val = 0 + 1 * (x 0).val; omega
      · show (x 1).val = (320 + 1 * (x 1).val) % 320; omega
    · obtain rfl := List.mem_singleton.mp hp
      refine (pay489_val i z x).trans ?_
      show _ = (((code (z (ix2 ⟨0 + 1 * (x 0).val, _⟩ ⟨(0 + 1 * (x 1).val) % 320, _⟩)) (6 * (i 0).val + 3 * ((0 + 1 * (x 1).val) / 320)) : ℕ) : ℝ) : EReal)
      have e2 : (0 + 1 * (x 1).val) / 320 = 0 := by omega
      rw [e2]
      refine congrArg (fun u : BitVec 32 => (((code u (6 * (i 0).val) : ℕ) : ℝ) : EReal)) (congrArg z (funext fun b => Fin.ext ?_))
      fin_cases b
      · show (x 0).val = 0 + 1 * (x 0).val; omega
      · show (x 1).val = (0 + 1 * (x 1).val) % 320; omega
  · by_cases h : (y 1).val < 320
    · refine ⟨_, .tail _ (.head _), (Rect.unit (s := S75x640) ![0, 0] S75x320.size inb_S75x640_S75x320_0_0).mem_set.mpr fun b => ?_⟩
      fin_cases b
      · exact ⟨(y 0).val, hy0, by show (y 0).val = 0 + 1 * (y 0).val; omega⟩
      · exact ⟨(y 1).val, h, by show (y 1).val = 0 + 1 * (y 1).val; omega⟩
    · refine ⟨_, .head _, (Rect.unit (s := S75x640) ![0, 320] S75x320.size inb_S75x640_S75x320_0_320).mem_set.mpr fun b => ?_⟩
      fin_cases b
      · exact ⟨(y 0).val, hy0, by show (y 0).val = 0 + 1 * (y 0).val; omega⟩
      · exact ⟨(y 1).val - 320, by show (y 1).val - 320 < 320; omega, by show (y 1).val = 320 + 1 * ((y 1).val - 320); omega⟩

theorem read_scl (arg9 : Memref sig .tc .vmem S75x640 .f32) (f : BufTy.Contents (Elt Ideal) arg9.view.ty)
    (s s' : FVec Ideal S75x640 .bf16) (hs : s = s') :
    arg9.view.read (Elt Ideal) (arg9.view.writes (Elt Ideal) f
      [⟨Rect.unit (s := S75x640) ![0, 0] S75x640.size inb_S75x640_S75x640_0_0, k0_pay488 (F := Ideal) s⟩]) = s' := by
  subst hs
  rw [View.read_writes_full]
  exact shapeCast_self _ _

theorem unit_full_idx {s : Shape} (off : Fin s.rank → Nat) (h : ∀ a, off a + s.size a ≤ s.size a) (y : s.Idx) :
    (Rect.unit (s := s) off s.size h).toLoadRect.idx y = y := by
  funext a
  refine Fin.ext ?_
  have h0 : off a = 0 := by have := h a; omega
  show off a + 1 * (y a).val = (y a).val
  omega

/-- What the loop over the blocks leaves in the accumulator. -/
theorem loop_val (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole)
    (X2 : BufTy.Contents (Elt Ideal) arg2.view.ty) (X8 : BufTy.Contents (Elt Ideal) arg8.view.ty)
    (X9 : BufTy.Contents (Elt Ideal) arg9.view.ty) (X10 : BufTy.Contents (Elt Ideal) arg10.view.ty)
    (xp : FVec Ideal S192x9600 .bf16) (w : IVec S960x640 32) (s : FVec Ideal S75x640 .f32) (z : IVec S75x320 32)
    (h2 : arg2.view.read (Elt Ideal) X2 = w) (h8 : arg8.view.read (Elt Ideal) X8 = xp)
    (h9 : arg9.view.read (Elt Ideal) X9 = s) (h10 : arg10.view.read (Elt Ideal) X10 = zpt i z) :
    k0_pay7 (F := Ideal) (arg11.view.readCov (pb_k0_t3 (F := Ideal) Variants.none c none i arg1 harg1 arg2 harg2 arg3 harg3 arg4 harg4 arg5 harg5 arg6 harg6 arg7 harg7 arg8 harg8 arg9 harg9 arg10 harg10 arg11 harg11 v28 (pat .a) (pat .b) (k0_pay497 v28) (k0_pay498 v28)
          (Scalar.ofBits .f32 0x41800000#32) X2 X8 X9 X10
          (arg11.view.writes (Elt Ideal) arg11.view.junk [⟨Rect.unit (s := S192x640) ![0, 0] S192x640.size inb_S192x640_S192x640_0_0, k0_pay2 (F := Ideal)⟩])
          k0_t3_loop.trips ++ [⟨Rect.unit (s := S192x640) ![0, 0] S192x640.size inb_S192x640_S192x640_0_0, k0_pay2 (F := Ideal)⟩])
        (Rect.unit (s := S192x640) ![0, 0] S192x640.size inb_S192x640_S192x640_0_0).toLoadRect)
      = pout i xp w s z := by
  funext y
  obtain ⟨m, n, rfl⟩ : ∃ m n, y = ix2 m n := ⟨_, _, eq_ix2 y⟩
  have e := pb_acc (F := Ideal) c i arg1 harg1 arg2 harg2 arg3 harg3 arg4 harg4 arg5 harg5 arg6 harg6 arg7 harg7 arg8 harg8 arg9 harg9 arg10 harg10 arg11 harg11 X2 X8 X9 X10 arg11.view.junk k0_t3_loop.trips (Nat.le_refl _)
  have e2 := accN_end arg2 arg9 arg10 X2 X9 X10 arg8 X8 m n
  rw [h2, h8, h9, h10] at e2
  rw [← View.writes_append] at e
  exact (congrFun e (ix2 m n)).trans e2

section Points
variable (c : Dev nD) (i : grid0.Coords) (arg1 : Memref sig .tc .vmem S192x9600 .bf16) (harg1 : arg1.IsWhole) (arg2 : Memref sig .tc .vmem S960x640 .i32) (harg2 : arg2.IsWhole) (arg3 : Memref sig .tc .vmem S75x640 .bf16) (harg3 : arg3.IsWhole) (arg4 : Memref sig .tc .vmem S75x320 .i32) (harg4 : arg4.IsWhole) (arg5 : Memref sig .tc .vmem S40x128 .i32) (harg5 : arg5.IsWhole) (arg6 : Memref sig .tc .vmem S80x128 .bf16) (harg6 : arg6.IsWhole) (arg7 : Memref sig .tc .vmem S192x640 .bf16) (harg7 : arg7.IsWhole) (arg8 : Memref sig .tc .vmem S192x9600 .bf16) (harg8 : arg8.IsWhole) (arg9 : Memref sig .tc .vmem S75x640 .f32) (harg9 : arg9.IsWhole) (arg10 : Memref sig .tc .vmem S75x640 .f32) (harg10 : arg10.IsWhole) (arg11 : Memref sig .tc .vmem S192x640 .f32) (harg11 : arg11.IsWhole)

theorem valB (x1 : Vec Ideal S960x640 .i32) (x2 : Vec Ideal S75x640 .bf16) (x3 : Vec Ideal S75x320 .i32) (d0 : Vec Ideal S192x9600 .bf16) :
    k0_pay7 (runB.sl.v82 (F := Ideal) c i arg1 harg1 arg2 harg2 arg3 harg3 arg4 harg4 arg5 harg5 arg6 harg6 arg7 harg7 arg8 harg8 arg9 harg9 arg10 harg10 arg11 harg11 x1 x2 x3 d0) = pout i d0 x1 x2 x3 :=
  loop_val c i arg1 harg1 arg2 harg2 arg3 harg3 arg4 harg4 arg5 harg5 arg6 harg6 arg7 harg7 arg8 harg8 arg9 harg9 arg10 harg10 arg11 harg11 _ _ _ _ d0 x1 x2 x3 (harg2.read_unread x1) (harg8.read_unread d0)
    (read_scl arg9 _ _ _ (funext fun y => (ld_unread arg3 harg3 x2 _ y).trans (congrArg x2 (unit_full_idx _ _ y))))
    (read_zpt arg10 _ i _ _ (funext fun y => (ld_unread arg4 harg4 x3 _ y).trans (congrArg x3 (unit_full_idx _ _ y))))

theorem valA (hc0 : cond0_0 i) (x0 : Vec Ideal S192x9600 .bf16) (x1 : Vec Ideal S960x640 .i32) (x2 : Vec Ideal S75x640 .bf16) (x3 : Vec Ideal S75x320 .i32)
    (x4 : Vec Ideal S40x128 .i32) (x5 : Vec Ideal S80x128 .bf16) (d0 : Vec Ideal S192x9600 .bf16)
    (hI : IdxTab x4)
    (hP : PowTab x5) :
    k0_pay7 (runA.sl.v82 (F := Ideal) c i arg1 harg1 arg2 harg2 arg3 harg3 arg4 harg4 arg5 harg5 arg6 harg6 arg7 harg7 arg8 harg8 arg9 harg9 arg10 harg10 arg11 harg11 hc0 x0 x1 x2 x3 x4 x5 d0) = pout i (xperm x0) x1 x2 x3 :=
  loop_val c i arg1 harg1 arg2 harg2 arg3 harg3 arg4 harg4 arg5 harg5 arg6 harg6 arg7 harg7 arg8 harg8 arg9 harg9 arg10 harg10 arg11 harg11 _ _ _ _ (xperm x0) x1 x2 x3 (harg2.read_unread x1)
    ((read_perm arg1 arg5 arg6 i hc0 _ _ _ ((harg5.read_unread x4).symm ▸ hI) ((harg6.read_unread x5).symm ▸ hP) c
      harg1 arg2 harg2 arg3 harg3 arg4 harg4 harg5 harg6 arg7 harg7 arg8 harg8 arg9 harg9 arg10 harg10 arg11 harg11 _).trans (congrArg xperm (harg1.read_unread x0)))
    (read_scl arg9 _ _ _ (funext fun y => (ld_unread arg3 harg3 x2 _ y).trans (congrArg x2 (unit_full_idx _ _ y))))
    (read_zpt arg10 _ i _ _ (funext fun y => (ld_unread arg4 harg4 x3 _ y).trans (congrArg x3 (unit_full_idx _ _ y))))

/-- What the permutation leaves in its scratch. -/
theorem scrA (hc0 : cond0_0 i) (x0 : Vec Ideal S192x9600 .bf16) (x4 : Vec Ideal S40x128 .i32) (x5 : Vec Ideal S80x128 .bf16)
    (f : BufTy.Contents (Elt Ideal) arg8.view.ty)
    (hI : IdxTab x4)
    (hP : PowTab x5) :
    arg8.view.read (Elt Ideal) (arg8.view.writes (Elt Ideal) f (pb1 (F := Ideal) c i arg1 harg1 arg2 harg2 arg3 harg3 arg4 harg4 arg5 harg5 arg6 harg6 arg7 harg7 arg8 harg8 arg9 harg9 arg10 harg10 arg11 harg11 hc0 (harg1.unread x0) (harg5.unread x4) (harg6.unread x5) k0_t1_loop.trips))
      = xperm x0 :=
  (read_perm arg1 arg5 arg6 i hc0 _ _ _ ((harg5.read_unread x4).symm ▸ hI) ((harg6.read_unread x5).symm ▸ hP) c
      harg1 arg2 harg2 arg3 harg3 arg4 harg4 harg5 harg6 arg7 harg7 arg8 harg8 arg9 harg9 arg10 harg10 arg11 harg11 _).trans (congrArg xperm (harg1.read_unread x0))

end Points

end Cert.KernelIdeal.Hand
-- ==== Proof.Blocks.lean ====
/- What the windows of the kernel read: the blocks of the arguments and of the two tables, at an index. -/
module

public import proofs.«01_k».proof.Proof.Tables
public import proofs.«01_k».proof.Proof.Point
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

theorem V_main_c (c : Dev nD) : (V m c main_c : IVec S40x128 32) = fun i => lit0 (S40x128.rowMajor i) := by
  unfold_abbrev_sides
  after_results
  rfl

theorem V_main_cst (c : Dev nD) : (V m c main_cst : FVec Ideal S80x128 .bf16) = fun i => Ideal.ofBits .bf16 (lit1 (S80x128.rowMajor i)) := by
  unfold_abbrev_sides
  after_results
  rfl

theorem V_main_v0 (c : Dev nD) : (V m c main_v0 : FVec Ideal S192x9600 .bf16)
    = shapeCast S192x9600 (m ((c : Thread nD τ).loc main_arg0) : FVec Ideal S192x1x9600 .bf16) shapeCasts_S192x1x9600_S192x9600 := by
  unfold_abbrev_sides
  after_results
  rfl

/-- A power of two below one, from its bfloat16 pattern. -/
theorem ofBits_inv (q : Nat) (hq : q ≤ 5) :
    Ideal.ofBits .bf16 (BitVec.ofNat 16 (128 * (127 - q))) = ((((2:ℝ) ^ q)⁻¹ : ℝ) : EReal) := by
  interval_cases q <;> simp [Ideal.ofBits, Ideal.ieee, -EReal.coe_mul, -EReal.coe_one, -EReal.coe_pow] <;> norm_num

theorem qq_le (p : Fin 640) : qq p.val ≤ 5 := by
  revert p; decide +kernel

theorem idxTab_c (c : Dev nD) : IdxTab (V m c main_c : IVec S40x128 32) := by
  intro d r q
  rw [V_main_c]
  have h := lit0_all (S40x128.rowMajor (ix2 ⟨8 * d.val + r.val, row8 d r⟩ q))
  refine h.trans ?_
  rw [Shape.rowMajor_val_two]
  have := d.isLt; have := r.isLt; have := q.isLt
  congr 2
  show 128 * (((8 * d.val + r.val) * 128 + q.val) / 1024) + ((8 * d.val + r.val) * 128 + q.val) % 128 = _
  omega

theorem powTab_cst (c : Dev nD) : PowTab (V m c main_cst : FVec Ideal S80x128 .bf16) := by
  intro d r q
  rw [V_main_cst]
  have h := lit1_all (S80x128.rowMajor (ix2 ⟨16 * d.val + r.val, row16_lt d r⟩ q))
  have := d.isLt; have := r.isLt; have := q.isLt
  have hk : 128 * ((S80x128.rowMajor (ix2 ⟨16 * d.val + r.val, row16_lt d r⟩ q)).val / 2048)
      + (S80x128.rowMajor (ix2 ⟨16 * d.val + r.val, row16_lt d r⟩ q)).val % 128 = 128 * d.val + q.val := by
    rw [Shape.rowMajor_val_two]
    show 128 * (((16 * d.val + r.val) * 128 + q.val) / 2048) + ((16 * d.val + r.val) * 128 + q.val) % 128 = _
    omega
  rw [hk] at h
  refine (congrArg (Ideal.ofBits .bf16) h).trans ?_
  exact ofBits_inv _ (qq_le ⟨128 * d.val + q.val, by omega⟩)

theorem V_main_v0_at (c : Dev nD) (r : Fin 192) (k : Fin 9600) : (V m c main_v0 : FVec Ideal S192x9600 .bf16) (ix2 r k)
    = (m ((c : Thread nD τ).loc main_arg0) : FVec Ideal S192x1x9600 .bf16) (ix3 r 0 k) := by
  rw [V_main_v0]
  refine shapeCast_apply _ _ (ix2 r k) (ix3 r (0 : Fin 1) k) ?_
  rw [Shape.rowMajor_val_two, Shape.rowMajor_val_three]
  show (r.val * 1 + 0) * 9600 + k.val = r.val * 9600 + k.val
  omega

/- The blocks, at the step `t` of the grid. -/

theorem idx_0 (t : Fin cfg0.N) : ∀ a, win0_0.index t a = 0 := by
  rcases fin_N0 t with h | h | h | h | h <;> subst h <;> decide
theorem idx_3 (t : Fin cfg0.N) : ∀ a, win0_3.index t a = 0 := by
  rcases fin_N0 t with h | h | h | h | h <;> subst h <;> decide
theorem idx_4 (t : Fin cfg0.N) : ∀ a, win0_4.index t a = 0 := by
  rcases fin_N0 t with h | h | h | h | h <;> subst h <;> decide
theorem idx_5 (t : Fin cfg0.N) : ∀ a, win0_5.index t a = 0 := by
  rcases fin_N0 t with h | h | h | h | h <;> subst h <;> decide
theorem idx_1 (t : Fin cfg0.N) : win0_1.index t 0 = 0 ∧ win0_1.index t 1 = t.val := by
  rcases fin_N0 t with h | h | h | h | h <;> subst h <;> decide
theorem idx_2 (t : Fin cfg0.N) : win0_2.index t 0 = 0 ∧ win0_2.index t 1 = t.val := by
  rcases fin_N0 t with h | h | h | h | h <;> subst h <;> decide
theorem idx_6 (t : Fin cfg0.N) : win0_6.index t 0 = 0 ∧ win0_6.index t 1 = t.val := by
  rcases fin_N0 t with h | h | h | h | h <;> subst h <;> decide

theorem t_lt (t : Fin cfg0.N) : t.val < 5 := lt_of_lt_of_eq t.isLt (show cfg0.N = 5 from N_0)

theorem col_lt (t : Fin cfg0.N) (n : Fin 640) : 640 * t.val + n.val < 3200 := by
  have := t_lt t; have := n.isLt; omega

theorem iblk_0 (c : Dev nD) (t : Fin cfg0.N) : (iblk m c 0 t : FVec Ideal S192x9600 .bf16) = (V m c main_v0 : FVec Ideal S192x9600 .bf16) := by
  funext y
  unfold iblk
  rw [View.read_apply]
  show V m c main_v0 _ = _
  congr 1
  funext a; apply Fin.ext
  match a with
  | ⟨0, _⟩ =>
    show win0_0.index t 0 * 192 + 1 * (y 0).val = (y 0).val
    rw [idx_0]; omega
  | ⟨1, _⟩ =>
    show win0_0.index t 1 * 9600 + 1 * (y 1).val = (y 1).val
    rw [idx_0]; omega

theorem iblk_3 (c : Dev nD) (t : Fin cfg0.N) : (iblk m c 3 t : IVec S75x320 32) = (V m c main_arg3 : IVec S75x320 32) := by
  funext y
  unfold iblk
  rw [View.read_apply]
  show V m c main_arg3 _ = _
  congr 1
  funext a; apply Fin.ext
  match a with
  | ⟨0, _⟩ =>
    show win0_3.index t 0 * 75 + 1 * (y 0).val = (y 0).val
    rw [idx_3]; omega
  | ⟨1, _⟩ =>
    show win0_3.index t 1 * 320 + 1 * (y 1).val = (y 1).val
    rw [idx_3]; omega

theorem iblk_4 (c : Dev nD) (t : Fin cfg0.N) : (iblk m c 4 t : IVec S40x128 32) = (V m c main_c : IVec S40x128 32) := by
  funext y
  unfold iblk
  rw [View.read_apply]
  show V m c main_c _ = _
  congr 1
  funext a; apply Fin.ext
  match a with
  | ⟨0, _⟩ =>
    show win0_4.index t 0 * 40 + 1 * (y 0).val = (y 0).val
    rw [idx_4]; omega
  | ⟨1, _⟩ =>
    show win0_4.index t 1 * 128 + 1 * (y 1).val = (y 1).val
    rw [idx_4]; omega

theorem iblk_5 (c : Dev nD) (t : Fin cfg0.N) : (iblk m c 5 t : FVec Ideal S80x128 .bf16) = (V m c main_cst : FVec Ideal S80x128 .bf16) := by
  funext y
  unfold iblk
  rw [View.read_apply]
  show V m c main_cst _ = _
  congr 1
  funext a; apply Fin.ext
  match a with
  | ⟨0, _⟩ =>
    show win0_5.index t 0 * 80 + 1 * (y 0).val = (y 0).val
    rw [idx_5]; omega
  | ⟨1, _⟩ =>
    show win0_5.index t 1 * 128 + 1 * (y 1).val = (y 1).val
    rw [idx_5]; omega

theorem iblk_1 (c : Dev nD) (t : Fin cfg0.N) (r : Fin 960) (n : Fin 640) : (iblk m c 1 t : IVec S960x640 32) (ix2 r n)
    = (V m c main_arg1 : IVec S960x3200 32) (ix2 r ⟨640 * t.val + n.val, col_lt t n⟩) := by
  unfold iblk
  rw [View.read_apply]
  show V m c main_arg1 _ = _
  congr 1
  funext a; apply Fin.ext
  match a with
  | ⟨0, _⟩ =>
    show win0_1.index t 0 * 960 + 1 * r.val = r.val
    rw [(idx_1 t).1]; omega
  | ⟨1, _⟩ =>
    show win0_1.index t 1 * 640 + 1 * n.val = 640 * t.val + n.val
    rw [(idx_1 t).2]; omega

theorem iblk_2 (c : Dev nD) (t : Fin cfg0.N) (r : Fin 75) (n : Fin 640) : (iblk m c 2 t : FVec Ideal S75x640 .bf16) (ix2 r n)
    = (V m c main_arg2 : FVec Ideal S75x3200 .bf16) (ix2 r ⟨640 * t.val + n.val, col_lt t n⟩) := by
  unfold iblk
  rw [View.read_apply]
  show V m c main_arg2 _ = _
  congr 1
  funext a; apply Fin.ext
  match a with
  | ⟨0, _⟩ =>
    show win0_2.index t 0 * 75 + 1 * r.val = r.val
    rw [(idx_2 t).1]; omega
  | ⟨1, _⟩ =>
    show win0_2.index t 1 * 640 + 1 * n.val = 640 * t.val + n.val
    rw [(idx_2 t).2]; omega

end Cert.KernelIdeal.Hand
-- ==== Proof.NamedFrame.lean ====
/- What `KernelIdeal` computes: its result array holds, block of columns by block of columns, the product the
   points leave (`pout`) of the permuted activations and the dequantized weights. -/
module

public import proofs.«01_k».proof.Proof.KernelIdealFrame
public import proofs.«01_k».proof.Proof.Blocks

@[expose] public section

set_option maxRecDepth 16384

noncomputable section

namespace Cert.KernelIdeal.Named

open Cert.KernelIdeal Cert.KernelIdeal.Gen
open Cert.KernelIdeal.Hand hiding dats A_eq after0_0 after0_1 after0_2 after0_3 after0_4 after0_5 before0_0 before0_1 before0_2 before0_3 before0_4 before0_5 bodyPre bodyPost sound_body body_obligation run_main_quiescent run_main unchanged
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point of the grid. -/
def t00 : Fin cfg0.N := ⟨0, by rw [show cfg0.N = 5 from N_0]; decide⟩

/-- The permuted activations, as the first point leaves them in the carried scratch. -/
def XP (c : Dev nD) : FVec Ideal S192x9600 .bf16 := xperm (iblk m c 0 t00)

/-- What the body leaves in the output's buffer at point `t`. -/
def outAt (c : Dev nD) (t : Fin cfg0.N) : FVec Ideal S192x640 .bf16 :=
  pout (grid0.coords t) (XP m c) (iblk m c 1 t) (iblk m c 2 t) (iblk m c 3 t)

/-- The invariant before position `n`: every scratch at anything before the first point, the carried scratch at the
    permuted activations afterwards. -/
def PhiS (c : Dev nD) : (n : ℕ) → n ≤ cfg0.N → sProp 𝕄
  | 0, _ => Pipeline.ΦA spec0 c
  | n + 1, hn => iprop(iprop(owns (c : Thread nD τ) scM0_0 fullShare (XP m c) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (XP m c) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (XP m c) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The pipeline's proof data: the inputs' buffers at their blocks, the output's at the point's product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The tables' blocks are the tables. -/
theorem idxTab_blk (c : Dev nD) (t : Fin cfg0.N) : IdxTab (iblk m c 4 t) := (iblk_4 m c t).symm ▸ idxTab_c m c
theorem powTab_blk (c : Dev nD) (t : Fin cfg0.N) : PowTab (iblk m c 5 t) := (iblk_5 m c t).symm ▸ powTab_cst m c

set_option maxHeartbeats 6400000 in
/-- The body at any point: at the first it permutes the activations into the carried scratch, at the others it finds them there. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  have hN : t.val < 5 := lt_of_lt_of_eq t.isLt (show cfg0.N = 5 from N_0)
  by_cases hz : t.val = 0
  · have h0 : t.val % 5 = 0 := by omega
    obtain rfl : t = t00 := Fin.ext hz
    rw [PhiS_zero m c _ _ hz, PhiA0_eq]
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) scM0_0 (Memref.isWhole_whole _) scM0_1 (Memref.isWhole_whole _) scM0_2 (Memref.isWhole_whole _) scM0_3 (Memref.isWhole_whole _) ((hcond0_0 t00).mpr h0) (iblk m c 0 t00) (iblk m c 1 t00) (iblk m c 2 t00) (iblk m c 3 t00) (iblk m c 4 t00) (iblk m c 5 t00) e0 e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · unfold owns; iexists _; isplitr
          swap; · iexact HS0
          ipureintro
          exact scrA c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) scM0_0 (Memref.isWhole_whole _) scM0_1 (Memref.isWhole_whole _) scM0_2 (Memref.isWhole_whole _) scM0_3 (Memref.isWhole_whole _) _ (iblk m c 0 t00) (iblk m c 4 t00) (iblk m c 5 t00) _ (idxTab_blk m c t00) (powTab_blk m c t00)
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_full _ _ _ _ _).trans ?_
    exact valA c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) scM0_0 (Memref.isWhole_whole _) scM0_1 (Memref.isWhole_whole _) scM0_2 (Memref.isWhole_whole _) scM0_3 (Memref.isWhole_whole _) _ (iblk m c 0 t00) (iblk m c 1 t00) (iblk m c 2 t00) (iblk m c 3 t00) (iblk m c 4 t00) (iblk m c 5 t00) e0 (idxTab_blk m c t00) (powTab_blk m c t00)
  · have h0 : ¬t.val % 5 = 0 := by omega
    rw [PhiS_pos m c _ _ hz]
    iintro ⟨⟨⟨HS0, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (XP m c) e1 e2 e3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_full _ _ _ _ _).trans ?_
    exact valB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 1 t) (iblk m c 2 t) (iblk m c 3 t) (XP m c)

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 5 := N_0; omega)

set_option backward.isDefEq.respectTransparency.types false in
/-- The launch: the pipeline's post, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Named
-- ==== Proof.Reference.lean ====
/- The reference at an index: the product of the activations and the dequantized weights, the codes and the zero
   points as numbers. -/
module

public import proofs.«01_k».proof.Proof.Point
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Cert.KernelIdeal.Hand (code code_shrsi)
open Idealize.ShloMosaic Idealize.ShloMosaic.TcCoe Idealize.ShloMosaic.ValueIdx

/-- The shifts of the reference: three bits a field. -/
theorem shift_val : ∀ j : Fin 10, (IntOp.muli 3#32 (BitVec.ofNat 32 j.val)).toNat = 3 * j.val := by decide

theorem v2_val (i : S10.Idx) : (val_main_v2 (F := Ideal) i).toNat = 3 * (i 0).val := by
  rw [val_main_v2_apply, val_main_v1_apply, val_main_v0_apply, val_main_c_apply]
  exact shift_val (i 0)

theorem v11_val (x1 : IVec S960x3200 32) (k : Fin 9600) (col : Fin 3200) :
    (val_main_v11 (F := Ideal) x1 (ix2 k col) : EReal)
      = (((code (x1 (ix2 ⟨k.val / 10, by omega⟩ col)) (3 * (k.val % 10)) : ℕ) : ℝ) : EReal) := by
  rw [val_main_v11_apply, val_main_v10_apply, val_main_v9_apply, val_main_v8_apply, val_main_c_0_apply, val_main_v7_apply,
    val_main_v5_apply, val_main_v3_apply, val_main_v6_apply, val_main_v4_apply]
  have e := v2_val (idx_main_v4 (idx_main_v6 (idx_main_v10 (ix2 k col))))
  have e' : (((idx_main_v4 (idx_main_v6 (idx_main_v10 (ix2 k col)))) 0).val : Nat) = k.val % 10 := by
    show (k.val * 3200 + col.val) / 3200 % 10 = k.val % 10
    omega
  rw [e'] at e
  have hx : idx_main_v3 (idx_main_v5 (idx_main_v10 (ix2 k col))) = (ix2 ⟨k.val / 10, by omega⟩ col : S960x3200.Idx) := by
    funext a
    apply Fin.ext
    match a with
    | ⟨0, _⟩ => show (k.val * 3200 + col.val) / 32000 = k.val / 10; omega
    | ⟨1, _⟩ => show (k.val * 3200 + col.val) % 3200 = col.val; omega
  rw [hx]
  have h := code_shrsi .host (x1 (ix2 ⟨k.val / 10, by omega⟩ col)) (val_main_v2 (F := Ideal) (idx_main_v4 (idx_main_v6 (idx_main_v10 (ix2 k col))))) (by omega)
  rw [e] at h
  refine Eq.trans (b := (((IntOp.shrsi .host (x1 (ix2 ⟨k.val / 10, by omega⟩ col)) (val_main_v2 (F := Ideal) (idx_main_v4 (idx_main_v6 (idx_main_v10 (ix2 k col))))) &&& 7#32).toInt : ℝ) : EReal)) rfl ?_
  rw [h]
  norm_cast

theorem v22_val (x3 : IVec S75x320 32) (k : Fin 9600) (col : Fin 3200) :
    (val_main_v22 (F := Ideal) x3 (ix2 k col) : EReal)
      = (((code (x3 (ix2 ⟨k.val / 128, by omega⟩ ⟨col.val % 320, by omega⟩)) (3 * (col.val / 320)) : ℕ) : ℝ) : EReal) := by
  rw [val_main_v22_apply, val_main_v21_apply, val_main_v20_apply, val_main_v19_apply, val_main_v18_apply, val_main_v17_apply, val_main_c_1_apply,
    val_main_v16_apply, val_main_v14_apply, val_main_v12_apply, val_main_v15_apply, val_main_v13_apply]
  have hi : idx_main_v21 (idx_main_v22 (ix2 k col)) = (ix2 ⟨k.val / 128, by omega⟩ col : S75x3200.Idx) := by
    funext a
    apply Fin.ext
    match a with
    | ⟨0, _⟩ => show (k.val * 3200 + col.val) / 409600 = k.val / 128; omega
    | ⟨1, _⟩ => show (k.val * 3200 + col.val) % 3200 = col.val; omega
  rw [hi]
  generalize hg : (⟨k.val / 128, by omega⟩ : Fin 75) = g
  have e := v2_val (idx_main_v13 (idx_main_v15 (idx_main_v19 (ix2 g col))))
  have e' : (((idx_main_v13 (idx_main_v15 (idx_main_v19 (ix2 g col)))) 0).val : Nat) = col.val / 320 := by
    show (g.val * 3200 + col.val) / 320 % 10 = col.val / 320
    omega
  rw [e'] at e
  have hx : idx_main_v12 (idx_main_v14 (idx_main_v19 (ix2 g col))) = (ix2 g ⟨col.val % 320, by omega⟩ : S75x320.Idx) := by
    funext a
    apply Fin.ext
    match a with
    | ⟨0, _⟩ => show (g.val * 3200 + col.val) / 3200 = g.val; omega
    | ⟨1, _⟩ => show (g.val * 3200 + col.val) % 320 = col.val % 320; omega
  rw [hx]
  have h := code_shrsi .host (x3 (ix2 g ⟨col.val % 320, by omega⟩)) (val_main_v2 (F := Ideal) (idx_main_v13 (idx_main_v15 (idx_main_v19 (ix2 g col))))) (by omega)
  rw [e] at h
  refine Eq.trans (b := (((IntOp.shrsi .host (x3 (ix2 g ⟨col.val % 320, by omega⟩)) (val_main_v2 (F := Ideal) (idx_main_v13 (idx_main_v15 (idx_main_v19 (ix2 g col))))) &&& 7#32).toInt : ℝ) : EReal)) rfl ?_
  rw [h]
  norm_cast

theorem v25_val (x2 : FVec Ideal S75x3200 .bf16) (k : Fin 9600) (col : Fin 3200) :
    (val_main_v25 (F := Ideal) x2 (ix2 k col) : EReal) = x2 (ix2 ⟨k.val / 128, by omega⟩ col) := by
  rw [val_main_v25_apply, val_main_v24_apply]
  refine congrArg x2 (funext fun a => Fin.ext ?_)
  match a with
  | ⟨0, _⟩ => show (k.val * 3200 + col.val) / 409600 = k.val / 128; omega
  | ⟨1, _⟩ => show (k.val * 3200 + col.val) % 3200 = col.val; omega

/-- The dequantized weight of row `k` and column `col`. -/
def wref (x1 : IVec S960x3200 32) (x2 : FVec Ideal S75x3200 .bf16) (x3 : IVec S75x320 32) (k : Fin 9600) (col : Fin 3200) : EReal :=
  ((((code (x1 (ix2 ⟨k.val / 10, by omega⟩ col)) (3 * (k.val % 10)) : ℕ) : ℝ) : EReal)
      - (((code (x3 (ix2 ⟨k.val / 128, by omega⟩ ⟨col.val % 320, by omega⟩)) (3 * (col.val / 320)) : ℕ) : ℝ) : EReal))
    * x2 (ix2 ⟨k.val / 128, by omega⟩ col)

/-- The reference's result at an index. -/
theorem ref_val (x0 : FVec Ideal S192x1x9600 .bf16) (x1 : IVec S960x3200 32) (x2 : FVec Ideal S75x3200 .bf16) (x3 : IVec S75x320 32)
    (r : Fin 192) (col : Fin 3200) :
    (val_main_v29 (F := Ideal) x0 x1 x2 x3 (ix2 r col) : EReal) = ∑ k : Fin 9600, (x0 (ix3 r (0 : Fin 1) k) : EReal) * wref x1 x2 x3 k col := by
  rw [val_main_v29_apply]
  refine (val_main_v28_apply x0 x1 x2 x3 (ix2 r col)).trans (Finset.sum_congr rfl fun k _ => ?_)
  have hl : lidx_main_v28 (ix2 r col) k = (ix2 r k : S192x9600.Idx) := by
    funext a
    match a with
    | ⟨0, _⟩ => rfl
    | ⟨1, _⟩ => rfl
  have hr : ridx_main_v28 (ix2 r col) k = (ix2 k col : S9600x3200.Idx) := by
    funext a
    match a with
    | ⟨0, _⟩ => rfl
    | ⟨1, _⟩ => rfl
  rw [hl, hr]
  have h27 : (val_main_v27 (F := Ideal) x0 (ix2 r k) : EReal) = x0 (ix3 r (0 : Fin 1) k) := by
    rw [val_main_v27_apply]
    refine congrArg x0 (funext fun a => Fin.ext ?_)
    match a with
    | ⟨0, _⟩ => show (r.val * 9600 + k.val) / 9600 = r.val; omega
    | ⟨1, _⟩ => show 0 = 0; rfl
    | ⟨2, _⟩ => show (r.val * 9600 + k.val) % 9600 = k.val; omega
  have h26 : (val_main_v26 (F := Ideal) x1 x2 x3 (ix2 k col) : EReal) = wref x1 x2 x3 k col := by
    rw [val_main_v26_apply, val_main_v23_apply]
    show ((val_main_v11 (F := Ideal) x1 (ix2 k col) : EReal) - (val_main_v22 (F := Ideal) x3 (ix2 k col) : EReal)) * (val_main_v25 (F := Ideal) x2 (ix2 k col) : EReal) = _
    rw [v11_val, v22_val, v25_val]
    rfl
  exact congrArg₂ (fun a b : EReal => a * b) h27 h26

end Cert.ReferenceIdeal.Hand
-- ==== Proof.Reindex.lean ====
/- The two orders of the sum: block by block over the permuted rows, and row by row. -/
module

public import proofs.«01_k».proof.Proof.Reference

@[expose] public section

set_option maxRecDepth 16384

noncomputable section

namespace Cert.KernelIdeal.Hand

open Cert.KernelIdeal Cert.KernelIdeal.Gen
open Cert.ReferenceIdeal.Hand (wref)
open Idealize.ShloMosaic Idealize.ShloMosaic.TcCoe Idealize.ShloMosaic.ValueIdx

/-- The permutation of the rows of a block. -/
def srcE : Fin 640 ≃ Fin 640 :=
  Equiv.ofBijective (fun p => ⟨src p.val, src_lt p.val⟩)
    (Finite.injective_iff_bijective.mp fun p p' h => src_inj p p' (congrArg Fin.val h))

theorem srcE_val (p : Fin 640) : (srcE p).val = src p.val := rfl

/-- A sum over the rows, block by block in the permuted order. -/
theorem sum_blocks (f : Fin 9600 → EReal) :
    ∑ k : Fin 15, ∑ p : Fin 640, f ⟨640 * k.val + src p.val, by have := src_lt p.val; omega⟩ = ∑ k : Fin 9600, f k := by
  have h : ∀ k : Fin 15, ∑ p : Fin 640, f ⟨640 * k.val + src p.val, by have := src_lt p.val; omega⟩
      = ∑ p : Fin 640, f ⟨640 * k.val + p.val, by omega⟩ := fun k =>
    Equiv.sum_comp srcE (fun p : Fin 640 => f ⟨640 * k.val + p.val, by omega⟩)
  rw [Finset.sum_congr rfl fun k _ => h k]
  rw [← Fintype.sum_prod_type']
  refine Fintype.sum_equiv (finProdFinEquiv (m := 15) (n := 640)) _ _ fun x => ?_
  refine congrArg f (Fin.ext ?_)
  show 640 * x.1.val + x.2.val = x.2.val + 640 * x.1.val
  omega

/-- The power of two cancels: the row of activations carries its inverse. -/
theorem pow_cancel (x s : EReal) (a b q : Nat) :
    (x * ((((2:ℝ) ^ q)⁻¹ : ℝ) : EReal)) * (((((a * 2 ^ q : ℕ) : ℝ) : EReal) - (((b : ℕ) : ℝ) : EReal) * (((2 ^ q : ℕ) : ℝ) : EReal)) * s)
      = x * (((((a : ℕ) : ℝ) : EReal) - (((b : ℕ) : ℝ) : EReal)) * s) := by
  have h2 : ((2:ℝ) ^ q) ≠ 0 := pow_ne_zero _ two_ne_zero
  have e : ((((2:ℝ) ^ q)⁻¹ : ℝ) : EReal) * ((((a * 2 ^ q : ℕ) : ℝ) : EReal) - (((b : ℕ) : ℝ) : EReal) * (((2 ^ q : ℕ) : ℝ) : EReal))
      = (((a : ℕ) : ℝ) : EReal) - (((b : ℕ) : ℝ) : EReal) := by
    rw [← EReal.coe_mul, ← EReal.coe_sub, ← EReal.coe_mul, ← EReal.coe_sub]
    congr 1
    push_cast
    field_simp
  rw [mul_assoc, ← mul_assoc _ _ s, e]

/-- What a grid point stores is the reference's sum at its columns. -/
theorem pout_val (t : Fin cfg0.N) (ht : t.val < 5) (X0 : FVec Ideal S192x9600 .bf16) (W : IVec S960x640 32) (S : FVec Ideal S75x640 .bf16) (Z : IVec S75x320 32)
    (x0 : FVec Ideal S192x1x9600 .bf16) (x1 : IVec S960x3200 32) (x2 : FVec Ideal S75x3200 .bf16) (x3 : IVec S75x320 32)
    (r : Fin 192) (n : Fin 640) (col : Fin 3200) (hc : col.val = 640 * t.val + n.val)
    (h0 : ∀ k : Fin 9600, X0 (ix2 r k) = x0 (ix3 r (0 : Fin 1) k)) (h1 : ∀ g : Fin 960, W (ix2 g n) = x1 (ix2 g col))
    (h2 : ∀ g : Fin 75, S (ix2 g n) = x2 (ix2 g col)) (h3 : Z = x3) :
    (pout (grid0.coords t) (xperm X0) W S Z (ix2 r n) : EReal) = ∑ k : Fin 9600, (x0 (ix3 r (0 : Fin 1) k) : EReal) * wref x1 x2 x3 k col := by
  rw [← sum_blocks fun k => (x0 (ix3 r (0 : Fin 1) k) : EReal) * wref x1 x2 x3 k col]
  unfold pout
  refine Finset.sum_congr rfl fun k _ => Finset.sum_congr rfl fun p _ => ?_
  have hk := k.isLt
  have hp := p.isLt
  have hn := n.isLt
  have hs := src_lt p.val
  have hX : (xperm X0 (ix2 r ⟨640 * k.val + p.val, by omega⟩) : EReal)
      = (x0 (ix3 r (0 : Fin 1) ⟨640 * k.val + src p.val, by omega⟩) : EReal) * ((((2:ℝ) ^ qq p.val)⁻¹ : ℝ) : EReal) := by
    have e1 : (640 * k.val + p.val) / 640 = k.val := by omega
    have e2 : (640 * k.val + p.val) % 640 = p.val := by omega
    rw [← h0]
    unfold xperm inv2
    refine congrArg₂ (fun a b : EReal => a * b) (congrArg X0 ?_) ?_
    · refine congrArg (ix2 r) (Fin.ext ?_)
      show 640 * ((640 * k.val + p.val) / 640) + src ((640 * k.val + p.val) % 640) = _
      rw [e1, e2]
    · show ((((2:ℝ) ^ qq ((640 * k.val + p.val) % 640))⁻¹ : ℝ) : EReal) = _
      rw [e2]
  refine (congrArg (fun a : EReal => a * wsp W S (zpt (grid0.coords t) Z) k p n) hX).trans ?_
  unfold wsp
  rw [h1, h2, h3]
  refine (pow_cancel _ _ _ _ _).trans ?_
  refine congrArg (fun a : EReal => (x0 (ix3 r (0 : Fin 1) ⟨640 * k.val + src p.val, by omega⟩) : EReal) * a) ?_
  unfold wref
  have ec : (grid0.coords t 0).val = t.val := by
    rcases fin_N0 t with h | h | h | h | h <;> subst h <;> decide
  have a1 : (640 * k.val + src p.val) / 10 = 64 * k.val + src p.val / 10 := by omega
  have a2 : (640 * k.val + src p.val) % 10 = src p.val % 10 := by omega
  have a3 : (640 * k.val + src p.val) / 128 = 5 * k.val + src p.val / 128 := by omega
  have a4 : col.val % 320 = n.val % 320 := by omega
  have a5 : 3 * (col.val / 320) = 6 * (grid0.coords t 0).val + 3 * (n.val / 320) := by rw [ec]; omega
  simp only [a1, a2, a3, a4, a5]

end Cert.KernelIdeal.Hand
-- ==== Proof.Result.lean ====
/- The result array of `KernelIdeal` after the run, and the claim that it is the reference's. -/
module

public import proofs.«01_k».proof.Defs
public import proofs.«01_k».proof.Proof.NamedFrame
public import proofs.«01_k».proof.Proof.Reindex
public import proofs.«01_k».proof.Proof.Gen.ReferenceIdeal.Run
public import Idealize.ShloMosaic.Lib.Pipeline.ValueKit.Geometry

@[expose] public section

set_option maxRecDepth 16384

noncomputable section

namespace Cert.KernelIdeal.Named

open Cert.KernelIdeal Cert.KernelIdeal.Gen
open Cert.KernelIdeal.Hand (iblk_0 iblk_1 iblk_2 iblk_3 V_main_v0_at idx_6 t_lt col_lt pout_val)
open Cert.ReferenceIdeal.Hand (wref)
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The reference's sum. -/
def osum (x0 : FVec Ideal S192x1x9600 .bf16) (x1 : IVec S960x3200 32) (x2 : FVec Ideal S75x3200 .bf16) (x3 : IVec S75x320 32) :
    FVec Ideal S192x3200 .bf16 := fun y =>
  ∑ k : Fin 9600, (x0 (ix3 (y 0) (0 : Fin 1) k) : EReal) * wref x1 x2 x3 k (y 1)

/-- The reference's sum, of the arguments of the kernel. -/
def OUT (c : Dev nD) : FVec Ideal S192x3200 .bf16 :=
  osum (m ((c : Thread nD τ).loc main_arg0)) (m ((c : Thread nD τ).loc main_arg1)) (m ((c : Thread nD τ).loc main_arg2)) (m ((c : Thread nD τ).loc main_arg3))

/-- What the body leaves at point `t` is the block `t` of that sum. -/
theorem outAt_val (c : Dev nD) (t : Fin cfg0.N) (r : Fin 192) (n : Fin 640) :
    outAt m c t (ix2 r n) = OUT m c (ix2 r ⟨640 * t.val + n.val, col_lt t n⟩) := by
  unfold outAt XP
  refine pout_val t (t_lt t) (iblk m c 0 t00) _ _ _ (m ((c : Thread nD τ).loc main_arg0)) (m ((c : Thread nD τ).loc main_arg1))
    (m ((c : Thread nD τ).loc main_arg2)) (m ((c : Thread nD τ).loc main_arg3)) r n ⟨640 * t.val + n.val, col_lt t n⟩ rfl ?_ ?_ ?_ ?_
  · intro k
    rw [iblk_0]
    exact V_main_v0_at m c r k
  · intro g
    rw [iblk_1, V_main_arg1]
  · intro g
    rw [iblk_2, V_main_arg2]
  · rw [iblk_3, V_main_arg3]

theorem final (c : Dev nD) : (dats m 0 c).arrAt 6 cfg0.N = OUT m c := by
  refine (dats m 0 c).arrAt_eq_of_covers 6 _ (by decide +kernel) fun t hf y => ?_
  rw [after0_6]
  obtain ⟨r, n, rfl⟩ : ∃ (r : Fin 192) (n : Fin 640), y = ix2 r n := ⟨y 0, y 1, eq_ix2 y⟩
  refine Eq.trans (b := outAt m c t (ix2 r n)) rfl ?_
  rw [outAt_val]
  refine congrArg (OUT m c) (funext fun a => Fin.ext ?_)
  match a with
  | ⟨0, _⟩ =>
    show r.val = win0_6.index t 0 * 192 + 1 * r.val
    rw [(idx_6 t).1]; omega
  | ⟨1, _⟩ =>
    show 640 * t.val + n.val = win0_6.index t 1 * 640 + 1 * n.val
    rw [(idx_6 t).2]; omega

/-- The run, read: the result array at the sum, the arguments unchanged. -/
theorem run : θ_run defs (onTc (τ := τ) (main (F := Ideal))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans (final m c), h.2 c⟩)
    (θ_run_and (run_main m ρ) (frame_of m ρ (dats m) (A_eq m) (run_main m ρ)))

end Cert.KernelIdeal.Named

namespace Cert.ReferenceIdeal.Hand

open Idealize.ShloMosaic Idealize.ShloMosaic.TcCoe Idealize.ShloMosaic.ValueIdx
open Idealize.SL.Sem

/-- At `Ideal` the kernel's result array and the reference's agree. -/
theorem algebraic [hKernelIdeal : Cert.KernelIdeal.Facts] [hReferenceIdeal : Cert.ReferenceIdeal.Facts] :
    Cert.algebraic_KernelIdeal_ReferenceIdeal := by
  intro m g m' g' _ hagree
  refine ⟨fun c => Cert.KernelIdeal.Named.OUT m c, Cert.KernelIdeal.Named.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v29_eq (F := Ideal) _ _ _ _).trans ?_)
  obtain ⟨e0, e1, e2, e3⟩ := hagree c
  rw [e0, e1, e2, e3]
  funext y
  obtain ⟨r, col, rfl⟩ : ∃ (r : Fin 192) (col : Fin 3200), y = ix2 r col := ⟨y 0, y 1, eq_ix2 y⟩
  exact ref_val _ _ _ _ r col

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame_Kernel m ρ,
  fun m ρ _ => Cert.KernelIdeal.Hand.frame_KernelIdeal m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  trivial,
  @Cert.ReferenceIdeal.Hand.algebraic _ _⟩

end Cert.Proof

end
